-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_of_the_problem [hPre_inputs_of_the_problem : Cert.Pre_inputs_of_the_problem.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_of_the_problem.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_of_the_problem [hPre_inputs_of_the_problem : Cert.Pre_inputs_of_the_problem.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_of_the_problem.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_of_the_problem [hKernelIdeal : Cert.KernelIdeal.Facts] [hPre_inputs_of_the_problem : Cert.Pre_inputs_of_the_problem.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_of_the_problem m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_of_the_problem [hReferenceIdeal : Cert.ReferenceIdeal.Facts] [hPre_inputs_of_the_problem : Cert.Pre_inputs_of_the_problem.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_of_the_problem m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2_e_16" .f32 0x41B8AA3B#32 ((16 * (Real.log 2)⁻¹ : ℝ) : EReal)
  ∧ IdealRules.named_const.Statement Cert.KernelIdeal.κ "neg_log2_e_32" .f32 0xC238AA3B#32 (((-32) * (Real.log 2)⁻¹ : ℝ) : EReal)
  ∧ IdealRules.named_const.Statement Cert.KernelIdeal.κ "log2_e_14" .f32 0x41A194F4#32 ((14 * (Real.log 2)⁻¹ : ℝ) : EReal)

def algebraic_KernelIdeal_ReferenceIdeal_pre_inputs_of_the_problem [hKernelIdeal : Cert.KernelIdeal.Facts] [hReferenceIdeal : Cert.ReferenceIdeal.Facts] [hPre_inputs_of_the_problem : Cert.Pre_inputs_of_the_problem.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_of_the_problem m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs_of_the_problem : Cert.Pre_inputs_of_the_problem.Facts),
    quiescent_Kernel (hKernel := hKernel)
    ∧ quiescent_KernelIdeal (hKernelIdeal := hKernelIdeal)
    ∧ quiescent_KernelIdeal_pre_inputs_of_the_problem (hKernelIdeal := hKernelIdeal) (hPre_inputs_of_the_problem := hPre_inputs_of_the_problem)
    ∧ quiescent_ReferenceIdeal (hReferenceIdeal := hReferenceIdeal)
    ∧ quiescent_ReferenceIdeal_pre_inputs_of_the_problem (hReferenceIdeal := hReferenceIdeal) (hPre_inputs_of_the_problem := hPre_inputs_of_the_problem)
    ∧ preserves_Kernel_KernelIdeal
    ∧ algebraic_KernelIdeal_ReferenceIdeal_pre_inputs_of_the_problem (hKernelIdeal := hKernelIdeal) (hReferenceIdeal := hReferenceIdeal) (hPre_inputs_of_the_problem := hPre_inputs_of_the_problem)
-- ==== Pre_inputs_of_the_problem.lean ====
abbrev S256x65536 : Shape := ⟨2, ![256, 65536]⟩
abbrev S_ : Shape := ⟨0, ![]⟩

class Facts : Prop where
  bcast_S_S256x65536 : S_.BroadcastsInDim S256x65536 (![] : Fin 0 → Fin S256x65536.rank)
  reducesTo_S256x65536_S_d0_1 : S256x65536.ReducesTo [0, 1] S_
  h_S_ : 0 < S_.numel

variable [Facts]

def fn_part1 {F : FTy → Type} [FloatOps F] (main_arg0 : FVec F S256x65536 .f32) (main_v0 : IVec S256x65536 32) (main_v17 : IVec S256x65536 1) : IVec S_ 1 :=
  let main_c_4 : IVec S_ 32 := constantI S_ 32 32768#32
  let main_v18 : IVec S256x65536 32 := broadcastInDim S256x65536 ![] bcast_S_S256x65536 main_c_4
  let main_v19 : IVec S256x65536 1 := cmpi .slt main_v0 main_v18
  let main_cst_5 : FVec F S_ .f32 := constant S_ .f32 0xBE800000#32
  let main_v20 : FVec F S256x65536 .f32 := broadcastInDim S256x65536 ![] bcast_S_S256x65536 main_cst_5
  let main_v21 : IVec S256x65536 1 := cmpf .oge main_arg0 main_v20
  let main_v22 : IVec S256x65536 1 := ori main_v19 main_v21
  let main_v23 : IVec S256x65536 1 := andi main_v17 main_v22
  let main_c_6 : IVec S_ 1 := constantI S_ 1 1#1
  let main_v24 : IVec S_ 1 := (fun x v => Host.reduce IntOp.andi x v reducesTo_S256x65536_S_d0_1 h_S_) main_v23 main_c_6
  main_v24

def fn {F : FTy → Type} [FloatOps F] (main_arg0 : FVec F S256x65536 .f32) (main_arg1 : IVec S256x65536 32) (main_arg2 : IVec S256x65536 32) : IVec S_ 1 :=
  let main_v0 : IVec S256x65536 32 := iotaInDim S256x65536 32 1
  let main_c : IVec S_ 32 := constantI S_ 32 1#32
  let main_v1 : IVec S256x65536 32 := broadcastInDim S256x65536 ![] bcast_S_S256x65536 main_c
  let main_v2 : IVec S256x65536 1 := cmpi .eq main_arg1 main_v1
  let main_c_0 : IVec S_ 32 := constantI S_ 32 32768#32
  let main_v3 : IVec S256x65536 32 := broadcastInDim S256x65536 ![] bcast_S_S256x65536 main_c_0
  let main_v4 : IVec S256x65536 1 := cmpi .slt main_v0 main_v3
  let main_v5 : IVec S256x65536 1 := cmpi .eq main_v2 main_v4
  let main_c_1 : IVec S_ 32 := constantI S_ 32 1#32
  let main_v6 : IVec S256x65536 32 := broadcastInDim S256x65536 ![] bcast_S_S256x65536 main_c_1
  let main_v7 : IVec S256x65536 1 := cmpi .eq main_arg2 main_v6
  let main_c_2 : IVec S_ 32 := constantI S_ 32 32768#32
  let main_v8 : IVec S256x65536 32 := broadcastInDim S256x65536 ![] bcast_S_S256x65536 main_c_2
  let main_v9 : IVec S256x65536 1 := cmpi .sge main_v0 main_v8
  let main_v10 : IVec S256x65536 1 := cmpi .eq main_v7 main_v9
  let main_v11 : IVec S256x65536 1 := andi main_v5 main_v10
  let main_c_3 : IVec S_ 32 := constantI S_ 32 32768#32
  let main_v12 : IVec S256x65536 32 := broadcastInDim S256x65536 ![] bcast_S_S256x65536 main_c_3
  let main_v13 : IVec S256x65536 1 := cmpi .sge main_v0 main_v12
  let main_cst : FVec F S_ .f32 := constant S_ .f32 0x3FA00000#32
  let main_v14 : FVec F S256x65536 .f32 := broadcastInDim S256x65536 ![] bcast_S_S256x65536 main_cst
  let main_v15 : IVec S256x65536 1 := cmpf .ole main_arg0 main_v14
  let main_v16 : IVec S256x65536 1 := ori main_v13 main_v15
  let main_v17 : IVec S256x65536 1 := andi main_v11 main_v16
  fn_part1 (F := F) main_arg0 main_v0 main_v17
-- ==== Kernel.lean ====
abbrev S256x65536 : Shape := ⟨2, ![256, 65536]⟩
abbrev S256x1 : Shape := ⟨2, ![256, 1]⟩
abbrev S32x65536 : Shape := ⟨2, ![32, 65536]⟩
abbrev S32x1 : Shape := ⟨2, ![32, 1]⟩
abbrev S32x128 : Shape := ⟨2, ![32, 128]⟩
abbrev S32 : Shape := ⟨1, ![32]⟩
abbrev S256 : Shape := ⟨1, ![256]⟩

abbrev nBuf : Space → Nat
  | .hbm => 5
  | .vmem => 4
  | .smem => 0
  | _ => 0

abbrev bufTy : (tb : Table) → Fin (tcTables nBuf tb) → BufTy
  | .hbm, ⟨0, _⟩ => ⟨S256x65536, .f32⟩
  | .hbm, ⟨1, _⟩ => ⟨S256x65536, .i32⟩
  | .hbm, ⟨2, _⟩ => ⟨S256x65536, .i32⟩
  | .hbm, ⟨3, _⟩ => ⟨S256x1, .f32⟩
  | .hbm, ⟨4, _⟩ => ⟨S256, .f32⟩
  | .local _ .vmem, ⟨0, _⟩ => ⟨S32x65536, .f32⟩
  | .local _ .vmem, ⟨1, _⟩ => ⟨S32x65536, .f32⟩
  | .local _ .vmem, ⟨2, _⟩ => ⟨S32x1, .f32⟩
  | .local _ .vmem, ⟨3, _⟩ => ⟨S32x1, .f32⟩
  | _, _ => ⟨S256x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "log2_e_14" => some ((14 * (Real.log 2)⁻¹ : ℝ) : EReal)
  | "log2_e_16" => some ((16 * (Real.log 2)⁻¹ : ℝ) : EReal)
  | "neg_log2_e_32" => some (((-32) * (Real.log 2)⁻¹ : ℝ) : EReal)
  | _ => none
-- ==== ReferenceIdeal.lean ====
abbrev S256x65536 : Shape := ⟨2, ![256, 65536]⟩
abbrev S_ : Shape := ⟨0, ![]⟩
abbrev S16777216 : Shape := ⟨1, ![16777216]⟩
abbrev S8388608 : Shape := ⟨1, ![8388608]⟩
abbrev S16777216x1 : Shape := ⟨2, ![16777216, 1]⟩
abbrev S1 : Shape := ⟨1, ![1]⟩
abbrev S8388608x1 : Shape := ⟨2, ![8388608, 1]⟩
abbrev S8388608x2 : Shape := ⟨2, ![8388608, 2]⟩
abbrev S256x32768 : Shape := ⟨2, ![256, 32768]⟩
abbrev S256 : Shape := ⟨1, ![256]⟩

abbrev nBuf : Space → Nat
  | .hbm => 313
  | .vmem => 0
  | .smem => 0
  | _ => 0

abbrev hbmTy0_0 (i : Nat) : BufTy := match i % 128 with
  | 0 => ⟨S256x65536, .f32⟩
  | 1 => ⟨S256x65536, .i32⟩
  | 2 => ⟨S256x65536, .i32⟩
  | 3 => ⟨S_, .i32⟩
  | 4 => ⟨S256x65536, .i32⟩
  | 5 => ⟨S256x65536, .i1⟩
  | 6 => ⟨S16777216, .i1⟩
  | 7 => ⟨S16777216, .i32⟩
  | 8 => ⟨S_, .i32⟩
  | 9 => ⟨S_, .i32⟩
  | 10 => ⟨S16777216, .i32⟩
  | 11 => ⟨S_, .i32⟩
  | 12 => ⟨S8388608, .i32⟩
  | 13 => ⟨S_, .i32⟩
  | 14 => ⟨S16777216, .i32⟩
  | 15 => ⟨S16777216, .i1⟩
  | 16 => ⟨S_, .i32⟩
  | 17 => ⟨S16777216, .i32⟩
  | 18 => ⟨S16777216, .i32⟩
  | 19 => ⟨S16777216, .i32⟩
  | 20 => ⟨S16777216x1, .i32⟩
  | 21 => ⟨S_, .i32⟩
  | 22 => ⟨S16777216, .i32⟩
  | 23 => ⟨S8388608, .i32⟩
  | 24 => ⟨S_, .i32⟩
  | 25 => ⟨S_, .i32⟩
  | 26 => ⟨S8388608, .i32⟩
  | 27 => ⟨S_, .i32⟩
  | 28 => ⟨S_, .i32⟩
  | 29 => ⟨S8388608, .i32⟩
  | 30 => ⟨S8388608, .i32⟩
  | 31 => ⟨S8388608, .i32⟩
  | 32 => ⟨S_, .i32⟩
  | 33 => ⟨S8388608, .i32⟩
  | 34 => ⟨S8388608, .i1⟩
  | 35 => ⟨S8388608, .i32⟩
  | 36 => ⟨S8388608, .i32⟩
  | 37 => ⟨S_, .i32⟩
  | 38 => ⟨S8388608, .i32⟩
  | 39 => ⟨S8388608, .i1⟩
  | 40 => ⟨S8388608, .i1⟩
  | 41 => ⟨S_, .i32⟩
  | 42 => ⟨S8388608, .i32⟩
  | 43 => ⟨S8388608, .i32⟩
  | 44 => ⟨S8388608, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S8388608, .i32⟩
  | 52 => ⟨S8388608, .i32⟩
  | 53 => ⟨S_, .i32⟩
  | 54 => ⟨S8388608, .i32⟩
  | 55 => ⟨S8388608, .i1⟩
  | 56 => ⟨S_, .i32⟩
  | 57 => ⟨S8388608, .i32⟩
  | 58 => ⟨S8388608, .i1⟩
  | 59 => ⟨S_, .i32⟩
  | 60 => ⟨S_, .i1⟩
  | 61 => ⟨S8388608, .i1⟩
  | 62 => ⟨S8388608, .i1⟩
  | 63 => ⟨S8388608, .i1⟩
  | 64 => ⟨S8388608, .i32⟩
  | 65 => ⟨S8388608, .i32⟩
  | 66 => ⟨S8388608, .i32⟩
  | 67 => ⟨S_, .i32⟩
  | 68 => ⟨S_, .i32⟩
  | 69 => ⟨S8388608, .i32⟩
  | 70 => ⟨S8388608, .i32⟩
  | 71 => ⟨S8388608, .i32⟩
  | 72 => ⟨S_, .i32⟩
  | 73 => ⟨S8388608, .i32⟩
  | 74 => ⟨S8388608, .i1⟩
  | 75 => ⟨S8388608, .i32⟩
  | 76 => ⟨S8388608, .i32⟩
  | 77 => ⟨S_, .i32⟩
  | 78 => ⟨S8388608, .i32⟩
  | 79 => ⟨S8388608, .i1⟩
  | 80 => ⟨S8388608, .i1⟩
  | 81 => ⟨S_, .i32⟩
  | 82 => ⟨S8388608, .i32⟩
  | 83 => ⟨S8388608, .i32⟩
  | 84 => ⟨S8388608, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S8388608, .i32⟩
  | 92 => ⟨S8388608, .i32⟩
  | 93 => ⟨S_, .i32⟩
  | 94 => ⟨S8388608, .i32⟩
  | 95 => ⟨S8388608, .i1⟩
  | 96 => ⟨S_, .i32⟩
  | 97 => ⟨S8388608, .i32⟩
  | 98 => ⟨S8388608, .i1⟩
  | 99 => ⟨S_, .i32⟩
  | 100 => ⟨S_, .i1⟩
  | 101 => ⟨S8388608, .i1⟩
  | 102 => ⟨S8388608, .i1⟩
  | 103 => ⟨S8388608, .i1⟩
  | 104 => ⟨S8388608, .i32⟩
  | 105 => ⟨S8388608, .i32⟩
  | 106 => ⟨S8388608, .i32⟩
  | 107 => ⟨S16777216, .i32⟩
  | 108 => ⟨S_, .i32⟩
  | 109 => ⟨S_, .i32⟩
  | 110 => ⟨S1, .i32⟩
  | 111 => ⟨S8388608, .i32⟩
  | 112 => ⟨S8388608, .i32⟩
  | 113 => ⟨S8388608, .i1⟩
  | 114 => ⟨S_, .i32⟩
  | 115 => ⟨S_, .i32⟩
  | 116 => ⟨S8388608, .i32⟩
  | 117 => ⟨S8388608, .i32⟩
  | 118 => ⟨S_, .i32⟩
  | 119 => ⟨S_, .i32⟩
  | 120 => ⟨S8388608, .i32⟩
  | 121 => ⟨S8388608, .i32⟩
  | 122 => ⟨S_, .i32⟩
  | 123 => ⟨S256x65536, .i32⟩
  | 124 => ⟨S256x65536, .i1⟩
  | 125 => ⟨S16777216, .i1⟩
  | 126 => ⟨S16777216, .i32⟩
  | 127 => ⟨S_, .i32⟩
  | _ => ⟨S256x65536, .f32⟩

abbrev hbmTy0_1 (i : Nat) : BufTy := match i % 128 with
  | 0 => ⟨S_, .i32⟩
  | 1 => ⟨S16777216, .i32⟩
  | 2 => ⟨S_, .i32⟩
  | 3 => ⟨S8388608, .i32⟩
  | 4 => ⟨S_, .i32⟩
  | 5 => ⟨S16777216, .i32⟩
  | 6 => ⟨S16777216, .i1⟩
  | 7 => ⟨S_, .i32⟩
  | 8 => ⟨S16777216, .i32⟩
  | 9 => ⟨S16777216, .i32⟩
  | 10 => ⟨S16777216, .i32⟩
  | 11 => ⟨S16777216x1, .i32⟩
  | 12 => ⟨S_, .i32⟩
  | 13 => ⟨S16777216, .i32⟩
  | 14 => ⟨S8388608, .i32⟩
  | 15 => ⟨S_, .i32⟩
  | 16 => ⟨S_, .i32⟩
  | 17 => ⟨S8388608, .i32⟩
  | 18 => ⟨S_, .i32⟩
  | 19 => ⟨S_, .i32⟩
  | 20 => ⟨S8388608, .i32⟩
  | 21 => ⟨S8388608, .i32⟩
  | 22 => ⟨S8388608, .i32⟩
  | 23 => ⟨S_, .i32⟩
  | 24 => ⟨S8388608, .i32⟩
  | 25 => ⟨S8388608, .i1⟩
  | 26 => ⟨S8388608, .i32⟩
  | 27 => ⟨S8388608, .i32⟩
  | 28 => ⟨S_, .i32⟩
  | 29 => ⟨S8388608, .i32⟩
  | 30 => ⟨S8388608, .i1⟩
  | 31 => ⟨S8388608, .i1⟩
  | 32 => ⟨S_, .i32⟩
  | 33 => ⟨S8388608, .i32⟩
  | 34 => ⟨S8388608, .i32⟩
  | 35 => ⟨S8388608, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S8388608, .i32⟩
  | 43 => ⟨S8388608, .i32⟩
  | 44 => ⟨S_, .i32⟩
  | 45 => ⟨S8388608, .i32⟩
  | 46 => ⟨S8388608, .i1⟩
  | 47 => ⟨S_, .i32⟩
  | 48 => ⟨S8388608, .i32⟩
  | 49 => ⟨S8388608, .i1⟩
  | 50 => ⟨S_, .i32⟩
  | 51 => ⟨S_, .i1⟩
  | 52 => ⟨S8388608, .i1⟩
  | 53 => ⟨S8388608, .i1⟩
  | 54 => ⟨S8388608, .i1⟩
  | 55 => ⟨S8388608, .i32⟩
  | 56 => ⟨S8388608, .i32⟩
  | 57 => ⟨S8388608, .i32⟩
  | 58 => ⟨S_, .i32⟩
  | 59 => ⟨S_, .i32⟩
  | 60 => ⟨S8388608, .i32⟩
  | 61 => ⟨S8388608, .i32⟩
  | 62 => ⟨S8388608, .i32⟩
  | 63 => ⟨S_, .i32⟩
  | 64 => ⟨S8388608, .i32⟩
  | 65 => ⟨S8388608, .i1⟩
  | 66 => ⟨S8388608, .i32⟩
  | 67 => ⟨S8388608, .i32⟩
  | 68 => ⟨S_, .i32⟩
  | 69 => ⟨S8388608, .i32⟩
  | 70 => ⟨S8388608, .i1⟩
  | 71 => ⟨S8388608, .i1⟩
  | 72 => ⟨S_, .i32⟩
  | 73 => ⟨S8388608, .i32⟩
  | 74 => ⟨S8388608, .i32⟩
  | 75 => ⟨S8388608, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S8388608, .i32⟩
  | 83 => ⟨S8388608, .i32⟩
  | 84 => ⟨S_, .i32⟩
  | 85 => ⟨S8388608, .i32⟩
  | 86 => ⟨S8388608, .i1⟩
  | 87 => ⟨S_, .i32⟩
  | 88 => ⟨S8388608, .i32⟩
  | 89 => ⟨S8388608, .i1⟩
  | 90 => ⟨S_, .i32⟩
  | 91 => ⟨S_, .i1⟩
  | 92 => ⟨S8388608, .i1⟩
  | 93 => ⟨S8388608, .i1⟩
  | 94 => ⟨S8388608, .i1⟩
  | 95 => ⟨S8388608, .i32⟩
  | 96 => ⟨S8388608, .i32⟩
  | 97 => ⟨S8388608, .i32⟩
  | 98 => ⟨S16777216, .i32⟩
  | 99 => ⟨S_, .i32⟩
  | 100 => ⟨S_, .i32⟩
  | 101 => ⟨S1, .i32⟩
  | 102 => ⟨S8388608, .i32⟩
  | 103 => ⟨S8388608, .i32⟩
  | 104 => ⟨S8388608, .i1⟩
  | 105 => ⟨S_, .i32⟩
  | 106 => ⟨S_, .i32⟩
  | 107 => ⟨S8388608, .i32⟩
  | 108 => ⟨S8388608, .i32⟩
  | 109 => ⟨S_, .i32⟩
  | 110 => ⟨S_, .i32⟩
  | 111 => ⟨S8388608, .i32⟩
  | 112 => ⟨S8388608, .i32⟩
  | 113 => ⟨S_, .i32⟩
  | 114 => ⟨S8388608, .i32⟩
  | 115 => ⟨S8388608, .i1⟩
  | 116 => ⟨S_, .i32⟩
  | 117 => ⟨S8388608, .i32⟩
  | 118 => ⟨S8388608, .i32⟩
  | 119 => ⟨S8388608, .i32⟩
  | 120 => ⟨S_, .i32⟩
  | 121 => ⟨S8388608, .i32⟩
  | 122 => ⟨S8388608, .i1⟩
  | 123 => ⟨S_, .i32⟩
  | 124 => ⟨S8388608, .i32⟩
  | 125 => ⟨S8388608, .i32⟩
  | 126 => ⟨S8388608, .i32⟩
  | 127 => ⟨S8388608x1, .i32⟩
  | _ => ⟨S256x65536, .f32⟩

abbrev hbmTy0_2 (i : Nat) : BufTy := match i % 128 with
  | 0 => ⟨S8388608x1, .i32⟩
  | 1 => ⟨S8388608x2, .i32⟩
  | 2 => ⟨S8388608, .f32⟩
  | 3 => ⟨S256x32768, .f32⟩
  | 4 => ⟨S_, .i32⟩
  | 5 => ⟨S8388608, .i32⟩
  | 6 => ⟨S8388608, .i1⟩
  | 7 => ⟨S_, .i32⟩
  | 8 => ⟨S8388608, .i32⟩
  | 9 => ⟨S8388608, .i32⟩
  | 10 => ⟨S8388608, .i32⟩
  | 11 => ⟨S_, .i32⟩
  | 12 => ⟨S8388608, .i32⟩
  | 13 => ⟨S8388608, .i1⟩
  | 14 => ⟨S_, .i32⟩
  | 15 => ⟨S8388608, .i32⟩
  | 16 => ⟨S8388608, .i32⟩
  | 17 => ⟨S8388608, .i32⟩
  | 18 => ⟨S8388608x1, .i32⟩
  | 19 => ⟨S8388608x1, .i32⟩
  | 20 => ⟨S8388608x2, .i32⟩
  | 21 => ⟨S8388608, .f32⟩
  | 22 => ⟨S256x32768, .f32⟩
  | 23 => ⟨S_, .f32⟩
  | 24 => ⟨S256x32768, .f32⟩
  | 25 => ⟨S256x32768, .f32⟩
  | 26 => ⟨S_, .f32⟩
  | 27 => ⟨S256x32768, .f32⟩
  | 28 => ⟨S256x32768, .f32⟩
  | 29 => ⟨S_, .f32⟩
  | 30 => ⟨S256x32768, .f32⟩
  | 31 => ⟨S256x32768, .f32⟩
  | 32 => ⟨S_, .f32⟩
  | 33 => ⟨S256x32768, .f32⟩
  | 34 => ⟨S256x32768, .f32⟩
  | 35 => ⟨S256x32768, .f32⟩
  | 36 => ⟨S_, .f32⟩
  | 37 => ⟨S256x32768, .f32⟩
  | 38 => ⟨S256x32768, .f32⟩
  | 39 => ⟨S_, .f32⟩
  | 40 => ⟨S256x32768, .f32⟩
  | 41 => ⟨S256x32768, .f32⟩
  | 42 => ⟨S_, .f32⟩
  | 43 => ⟨S256x32768, .f32⟩
  | 44 => ⟨S256x32768, .f32⟩
  | 45 => ⟨S_, .f32⟩
  | 46 => ⟨S256x32768, .f32⟩
  | 47 => ⟨S256x32768, .f32⟩
  | 48 => ⟨S256x32768, .f32⟩
  | 49 => ⟨S256x32768, .f32⟩
  | 50 => ⟨S_, .f32⟩
  | 51 => ⟨S256, .f32⟩
  | 52 => ⟨S256x32768, .f32⟩
  | 53 => ⟨S_, .f32⟩
  | 54 => ⟨S256, .f32⟩
  | 55 => ⟨S256, .f32⟩
  | 56 => ⟨S256, .f32⟩
  | _ => ⟨S256x65536, .f32⟩

abbrev hbmTy (i : Nat) : BufTy := match i / 128 with
  | 0 => hbmTy0_0 i
  | 1 => hbmTy0_1 i
  | 2 => hbmTy0_2 i
  | _ => ⟨S256x65536, .f32⟩

abbrev bufTy : (tb : Table) → Fin (tcTables nBuf tb) → BufTy
  | .hbm, ⟨i, _⟩ => hbmTy i
  | _, _ => ⟨S256x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_call0_c : Ref sig .tc := ⟨.hbm, 8, rfl⟩
abbrev main_call0_call0_v0 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_call1_call0_c : Ref sig .tc := ⟨.hbm, 24, rfl⟩
abbrev main_call1_call0_v0 : Ref sig .tc := ⟨.hbm, 25, rfl⟩
abbrev main_v13 : Ref sig .tc := ⟨.hbm, 26, rfl⟩
abbrev main_c_4 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_0 : Ref sig .tc := ⟨.hbm, 41, rfl⟩
abbrev main_call2_v12 : Ref sig .tc := ⟨.hbm, 42, rfl⟩
abbrev main_call2_v13 : Ref sig .tc := ⟨.hbm, 43, rfl⟩
abbrev main_v14 : Ref sig .tc := ⟨.hbm, 44, rfl⟩
abbrev main_c_5 : Ref sig .tc := ⟨.hbm, 45, rfl⟩
abbrev main_call3_v0 : Ref sig .tc := ⟨.hbm, 46, rfl⟩
abbrev main_call3_c : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_c_1 : Ref sig .tc := ⟨.hbm, 53, rfl⟩
abbrev main_call3_v5 : Ref sig .tc := ⟨.hbm, 54, rfl⟩
abbrev main_call3_v6 : Ref sig .tc := ⟨.hbm, 55, rfl⟩
abbrev main_call3_c_2 : Ref sig .tc := ⟨.hbm, 56, rfl⟩
abbrev main_call3_v7 : Ref sig .tc := ⟨.hbm, 57, rfl⟩
abbrev main_call3_v8 : Ref sig .tc := ⟨.hbm, 58, rfl⟩
abbrev main_call3_c_3 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_v12 : Ref sig .tc := ⟨.hbm, 63, rfl⟩
abbrev main_call3_v13 : Ref sig .tc := ⟨.hbm, 64, rfl⟩
abbrev main_call3_v14 : Ref sig .tc := ⟨.hbm, 65, rfl⟩
abbrev main_v15 : Ref sig .tc := ⟨.hbm, 66, rfl⟩
abbrev main_c_6 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_v5 : Ref sig .tc := ⟨.hbm, 73, rfl⟩
abbrev main_call4_v6 : Ref sig .tc := ⟨.hbm, 74, rfl⟩
abbrev main_call4_v7 : Ref sig .tc := ⟨.hbm, 75, rfl⟩
abbrev main_call4_v8 : Ref sig .tc := ⟨.hbm, 76, rfl⟩
abbrev main_call4_c : Ref sig .tc := ⟨.hbm, 77, rfl⟩
abbrev main_call4_v9 : Ref sig .tc := ⟨.hbm, 78, rfl⟩
abbrev main_call4_v10 : Ref sig .tc := ⟨.hbm, 79, rfl⟩
abbrev main_call4_v11 : Ref sig .tc := ⟨.hbm, 80, rfl⟩
abbrev main_call4_c_0 : Ref sig .tc := ⟨.hbm, 81, rfl⟩
abbrev main_call4_v12 : Ref sig .tc := ⟨.hbm, 82, rfl⟩
abbrev main_call4_v13 : Ref sig .tc := ⟨.hbm, 83, rfl⟩
abbrev main_v16 : Ref sig .tc := ⟨.hbm, 84, rfl⟩
abbrev main_c_7 : Ref sig .tc := ⟨.hbm, 85, rfl⟩
abbrev main_call5_v0 : Ref sig .tc := ⟨.hbm, 86, rfl⟩
abbrev main_call5_c : Ref sig .tc := ⟨.hbm, 87, rfl⟩
abbrev main_call5_v1 : Ref sig .tc := ⟨.hbm, 88, rfl⟩
abbrev main_call5_c_0 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_c_1 : Ref sig .tc := ⟨.hbm, 93, rfl⟩
abbrev main_call5_v5 : Ref sig .tc := ⟨.hbm, 94, rfl⟩
abbrev main_call5_v6 : Ref sig .tc := ⟨.hbm, 95, rfl⟩
abbrev main_call5_c_2 : Ref sig .tc := ⟨.hbm, 96, rfl⟩
abbrev main_call5_v7 : Ref sig .tc := ⟨.hbm, 97, rfl⟩
abbrev main_call5_v8 : Ref sig .tc := ⟨.hbm, 98, rfl⟩
abbrev main_call5_c_3 : Ref sig .tc := ⟨.hbm, 99, rfl⟩
abbrev main_call5_v9 : Ref sig .tc := ⟨.hbm, 100, rfl⟩
abbrev main_call5_v10 : Ref sig .tc := ⟨.hbm, 101, rfl⟩
abbrev main_call5_v11 : Ref sig .tc := ⟨.hbm, 102, rfl⟩
abbrev main_call5_v12 : Ref sig .tc := ⟨.hbm, 103, rfl⟩
abbrev main_call5_v13 : Ref sig .tc := ⟨.hbm, 104, rfl⟩
abbrev main_call5_v14 : Ref sig .tc := ⟨.hbm, 105, rfl⟩
abbrev main_v17 : Ref sig .tc := ⟨.hbm, 106, rfl⟩
abbrev main_v18 : Ref sig .tc := ⟨.hbm, 107, rfl⟩
abbrev main_c_8 : Ref sig .tc := ⟨.hbm, 108, rfl⟩
abbrev main_v19 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_c_9 : Ref sig .tc := ⟨.hbm, 114, rfl⟩
abbrev main_call6_v0 : Ref sig .tc := ⟨.hbm, 115, rfl⟩
abbrev main_call6_v1 : Ref sig .tc := ⟨.hbm, 116, rfl⟩
abbrev main_v24 : Ref sig .tc := ⟨.hbm, 117, rfl⟩
abbrev main_c_10 : Ref sig .tc := ⟨.hbm, 118, rfl⟩
abbrev main_call7_v0 : Ref sig .tc := ⟨.hbm, 119, rfl⟩
abbrev main_call7_v1 : Ref sig .tc := ⟨.hbm, 120, rfl⟩
abbrev main_v25 : Ref sig .tc := ⟨.hbm, 121, rfl⟩
abbrev main_c_11 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_call8_v0 : Ref sig .tc := ⟨.hbm, 126, rfl⟩
abbrev main_call8_call0_c : Ref sig .tc := ⟨.hbm, 127, rfl⟩
abbrev main_call8_call0_v0 : Ref sig .tc := ⟨.hbm, 128, rfl⟩
abbrev main_v29 : Ref sig .tc := ⟨.hbm, 129, rfl⟩
abbrev main_c_12 : Ref sig .tc := ⟨.hbm, 130, rfl⟩
abbrev main_v30 : Ref sig .tc := ⟨.hbm, 131, rfl⟩
abbrev main_c_13 : Ref sig .tc := ⟨.hbm, 132, rfl⟩
abbrev main_v31 : Ref sig .tc := ⟨.hbm, 133, rfl⟩
abbrev main_v32 : Ref sig .tc := ⟨.hbm, 134, rfl⟩
abbrev main_c_14 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_c_15 : Ref sig .tc := ⟨.hbm, 140, rfl⟩
abbrev main_v37 : Ref sig .tc := ⟨.hbm, 141, rfl⟩
abbrev main_v38 : Ref sig .tc := ⟨.hbm, 142, rfl⟩
abbrev main_call9_call0_c : Ref sig .tc := ⟨.hbm, 143, rfl⟩
abbrev main_call9_call0_v0 : Ref sig .tc := ⟨.hbm, 144, rfl⟩
abbrev main_v39 : Ref sig .tc := ⟨.hbm, 145, rfl⟩
abbrev main_c_16 : Ref sig .tc := ⟨.hbm, 146, rfl⟩
abbrev main_call10_v0 : Ref sig .tc := ⟨.hbm, 147, rfl⟩
abbrev main_call10_v1 : Ref sig .tc := ⟨.hbm, 148, rfl⟩
abbrev main_call10_v2 : Ref sig .tc := ⟨.hbm, 149, rfl⟩
abbrev main_call10_v3 : Ref sig .tc := ⟨.hbm, 150, rfl⟩
abbrev main_call10_v4 : Ref sig .tc := ⟨.hbm, 151, rfl⟩
abbrev main_call10_v5 : Ref sig .tc := ⟨.hbm, 152, rfl⟩
abbrev main_call10_v6 : Ref sig .tc := ⟨.hbm, 153, rfl⟩
abbrev main_call10_v7 : Ref sig .tc := ⟨.hbm, 154, rfl⟩
abbrev main_call10_v8 : Ref sig .tc := ⟨.hbm, 155, rfl⟩
abbrev main_call10_c : Ref sig .tc := ⟨.hbm, 156, rfl⟩
abbrev main_call10_v9 : Ref sig .tc := ⟨.hbm, 157, rfl⟩
abbrev main_call10_v10 : Ref sig .tc := ⟨.hbm, 158, rfl⟩
abbrev main_call10_v11 : Ref sig .tc := ⟨.hbm, 159, rfl⟩
abbrev main_call10_c_0 : Ref sig .tc := ⟨.hbm, 160, rfl⟩
abbrev main_call10_v12 : Ref sig .tc := ⟨.hbm, 161, rfl⟩
abbrev main_call10_v13 : Ref sig .tc := ⟨.hbm, 162, rfl⟩
abbrev main_v40 : Ref sig .tc := ⟨.hbm, 163, rfl⟩
abbrev main_c_17 : Ref sig .tc := ⟨.hbm, 164, rfl⟩
abbrev main_call11_v0 : Ref sig .tc := ⟨.hbm, 165, rfl⟩
abbrev main_call11_c : Ref sig .tc := ⟨.hbm, 166, rfl⟩
abbrev main_call11_v1 : Ref sig .tc := ⟨.hbm, 167, rfl⟩
abbrev main_call11_c_0 : Ref sig .tc := ⟨.hbm, 168, rfl⟩
abbrev main_call11_v2 : Ref sig .tc := ⟨.hbm, 169, rfl⟩
abbrev main_call11_v3 : Ref sig .tc := ⟨.hbm, 170, rfl⟩
abbrev main_call11_v4 : Ref sig .tc := ⟨.hbm, 171, rfl⟩
abbrev main_call11_c_1 : Ref sig .tc := ⟨.hbm, 172, rfl⟩
abbrev main_call11_v5 : Ref sig .tc := ⟨.hbm, 173, rfl⟩
abbrev main_call11_v6 : Ref sig .tc := ⟨.hbm, 174, rfl⟩
abbrev main_call11_c_2 : Ref sig .tc := ⟨.hbm, 175, rfl⟩
abbrev main_call11_v7 : Ref sig .tc := ⟨.hbm, 176, rfl⟩
abbrev main_call11_v8 : Ref sig .tc := ⟨.hbm, 177, rfl⟩
abbrev main_call11_c_3 : Ref sig .tc := ⟨.hbm, 178, rfl⟩
abbrev main_call11_v9 : Ref sig .tc := ⟨.hbm, 179, rfl⟩
abbrev main_call11_v10 : Ref sig .tc := ⟨.hbm, 180, rfl⟩
abbrev main_call11_v11 : Ref sig .tc := ⟨.hbm, 181, rfl⟩
abbrev main_call11_v12 : Ref sig .tc := ⟨.hbm, 182, rfl⟩
abbrev main_call11_v13 : Ref sig .tc := ⟨.hbm, 183, rfl⟩
abbrev main_call11_v14 : Ref sig .tc := ⟨.hbm, 184, rfl⟩
abbrev main_v41 : Ref sig .tc := ⟨.hbm, 185, rfl⟩
abbrev main_c_18 : Ref sig .tc := ⟨.hbm, 186, rfl⟩
abbrev main_call12_v0 : Ref sig .tc := ⟨.hbm, 187, rfl⟩
abbrev main_call12_v1 : Ref sig .tc := ⟨.hbm, 188, rfl⟩
abbrev main_call12_v2 : Ref sig .tc := ⟨.hbm, 189, rfl⟩
abbrev main_call12_v3 : Ref sig .tc := ⟨.hbm, 190, rfl⟩
abbrev main_call12_v4 : Ref sig .tc := ⟨.hbm, 191, rfl⟩
abbrev main_call12_v5 : Ref sig .tc := ⟨.hbm, 192, rfl⟩
abbrev main_call12_v6 : Ref sig .tc := ⟨.hbm, 193, rfl⟩
abbrev main_call12_v7 : Ref sig .tc := ⟨.hbm, 194, rfl⟩
abbrev main_call12_v8 : Ref sig .tc := ⟨.hbm, 195, rfl⟩
abbrev main_call12_c : Ref sig .tc := ⟨.hbm, 196, rfl⟩
abbrev main_call12_v9 : Ref sig .tc := ⟨.hbm, 197, rfl⟩
abbrev main_call12_v10 : Ref sig .tc := ⟨.hbm, 198, rfl⟩
abbrev main_call12_v11 : Ref sig .tc := ⟨.hbm, 199, rfl⟩
abbrev main_call12_c_0 : Ref sig .tc := ⟨.hbm, 200, rfl⟩
abbrev main_call12_v12 : Ref sig .tc := ⟨.hbm, 201, rfl⟩
abbrev main_call12_v13 : Ref sig .tc := ⟨.hbm, 202, rfl⟩
abbrev main_v42 : Ref sig .tc := ⟨.hbm, 203, rfl⟩
abbrev main_c_19 : Ref sig .tc := ⟨.hbm, 204, rfl⟩
abbrev main_call13_v0 : Ref sig .tc := ⟨.hbm, 205, rfl⟩
abbrev main_call13_c : Ref sig .tc := ⟨.hbm, 206, rfl⟩
abbrev main_call13_v1 : Ref sig .tc := ⟨.hbm, 207, rfl⟩
abbrev main_call13_c_0 : Ref sig .tc := ⟨.hbm, 208, rfl⟩
abbrev main_call13_v2 : Ref sig .tc := ⟨.hbm, 209, rfl⟩
abbrev main_call13_v3 : Ref sig .tc := ⟨.hbm, 210, rfl⟩
abbrev main_call13_v4 : Ref sig .tc := ⟨.hbm, 211, rfl⟩
abbrev main_call13_c_1 : Ref sig .tc := ⟨.hbm, 212, rfl⟩
abbrev main_call13_v5 : Ref sig .tc := ⟨.hbm, 213, rfl⟩
abbrev main_call13_v6 : Ref sig .tc := ⟨.hbm, 214, rfl⟩
abbrev main_call13_c_2 : Ref sig .tc := ⟨.hbm, 215, rfl⟩
abbrev main_call13_v7 : Ref sig .tc := ⟨.hbm, 216, rfl⟩
abbrev main_call13_v8 : Ref sig .tc := ⟨.hbm, 217, rfl⟩
abbrev main_call13_c_3 : Ref sig .tc := ⟨.hbm, 218, rfl⟩
abbrev main_call13_v9 : Ref sig .tc := ⟨.hbm, 219, rfl⟩
abbrev main_call13_v10 : Ref sig .tc := ⟨.hbm, 220, rfl⟩
abbrev main_call13_v11 : Ref sig .tc := ⟨.hbm, 221, rfl⟩
abbrev main_call13_v12 : Ref sig .tc := ⟨.hbm, 222, rfl⟩
abbrev main_call13_v13 : Ref sig .tc := ⟨.hbm, 223, rfl⟩
abbrev main_call13_v14 : Ref sig .tc := ⟨.hbm, 224, rfl⟩
abbrev main_v43 : Ref sig .tc := ⟨.hbm, 225, rfl⟩
abbrev main_v44 : Ref sig .tc := ⟨.hbm, 226, rfl⟩
abbrev main_c_20 : Ref sig .tc := ⟨.hbm, 227, rfl⟩
abbrev main_v45 : Ref sig .tc := ⟨.hbm, 228, rfl⟩
abbrev main_v46 : Ref sig .tc := ⟨.hbm, 229, rfl⟩
abbrev main_v47 : Ref sig .tc := ⟨.hbm, 230, rfl⟩
abbrev main_v48 : Ref sig .tc := ⟨.hbm, 231, rfl⟩
abbrev main_v49 : Ref sig .tc := ⟨.hbm, 232, rfl⟩
abbrev main_c_21 : Ref sig .tc := ⟨.hbm, 233, rfl⟩
abbrev main_call14_v0 : Ref sig .tc := ⟨.hbm, 234, rfl⟩
abbrev main_call14_v1 : Ref sig .tc := ⟨.hbm, 235, rfl⟩
abbrev main_v50 : Ref sig .tc := ⟨.hbm, 236, rfl⟩
abbrev main_c_22 : Ref sig .tc := ⟨.hbm, 237, rfl⟩
abbrev main_call15_v0 : Ref sig .tc := ⟨.hbm, 238, rfl⟩
abbrev main_call15_v1 : Ref sig .tc := ⟨.hbm, 239, rfl⟩
abbrev main_v51 : Ref sig .tc := ⟨.hbm, 240, rfl⟩
abbrev main_c_23 : Ref sig .tc := ⟨.hbm, 241, rfl⟩
abbrev main_v52 : Ref sig .tc := ⟨.hbm, 242, rfl⟩
abbrev main_v53 : Ref sig .tc := ⟨.hbm, 243, rfl⟩
abbrev main_c_24 : Ref sig .tc := ⟨.hbm, 244, rfl⟩
abbrev main_v54 : Ref sig .tc := ⟨.hbm, 245, rfl⟩
abbrev main_v55 : Ref sig .tc := ⟨.hbm, 246, rfl⟩
abbrev main_v56 : Ref sig .tc := ⟨.hbm, 247, rfl⟩
abbrev main_c_25 : Ref sig .tc := ⟨.hbm, 248, rfl⟩
abbrev main_v57 : Ref sig .tc := ⟨.hbm, 249, rfl⟩
abbrev main_v58 : Ref sig .tc := ⟨.hbm, 250, rfl⟩
abbrev main_c_26 : Ref sig .tc := ⟨.hbm, 251, rfl⟩
abbrev main_v59 : Ref sig .tc := ⟨.hbm, 252, rfl⟩
abbrev main_v60 : Ref sig .tc := ⟨.hbm, 253, rfl⟩
abbrev main_v61 : Ref sig .tc := ⟨.hbm, 254, rfl⟩
abbrev main_v62 : Ref sig .tc := ⟨.hbm, 255, rfl⟩
abbrev main_v63 : Ref sig .tc := ⟨.hbm, 256, rfl⟩
abbrev main_v64 : Ref sig .tc := ⟨.hbm, 257, rfl⟩
abbrev main_v65 : Ref sig .tc := ⟨.hbm, 258, rfl⟩
abbrev main_v66 : Ref sig .tc := ⟨.hbm, 259, rfl⟩
abbrev main_c_27 : Ref sig .tc := ⟨.hbm, 260, rfl⟩
abbrev main_v67 : Ref sig .tc := ⟨.hbm, 261, rfl⟩
abbrev main_v68 : Ref sig .tc := ⟨.hbm, 262, rfl⟩
abbrev main_c_28 : Ref sig .tc := ⟨.hbm, 263, rfl⟩
abbrev main_v69 : Ref sig .tc := ⟨.hbm, 264, rfl⟩
abbrev main_v70 : Ref sig .tc := ⟨.hbm, 265, rfl⟩
abbrev main_v71 : Ref sig .tc := ⟨.hbm, 266, rfl⟩
abbrev main_c_29 : Ref sig .tc := ⟨.hbm, 267, rfl⟩
abbrev main_v72 : Ref sig .tc := ⟨.hbm, 268, rfl⟩
abbrev main_v73 : Ref sig .tc := ⟨.hbm, 269, rfl⟩
abbrev main_c_30 : Ref sig .tc := ⟨.hbm, 270, rfl⟩
abbrev main_v74 : Ref sig .tc := ⟨.hbm, 271, rfl⟩
abbrev main_v75 : Ref sig .tc := ⟨.hbm, 272, rfl⟩
abbrev main_v76 : Ref sig .tc := ⟨.hbm, 273, rfl⟩
abbrev main_v77 : Ref sig .tc := ⟨.hbm, 274, rfl⟩
abbrev main_v78 : Ref sig .tc := ⟨.hbm, 275, rfl⟩
abbrev main_v79 : Ref sig .tc := ⟨.hbm, 276, rfl⟩
abbrev main_v80 : Ref sig .tc := ⟨.hbm, 277, rfl⟩
abbrev main_v81 : Ref sig .tc := ⟨.hbm, 278, rfl⟩
abbrev main_cst : Ref sig .tc := ⟨.hbm, 279, rfl⟩
abbrev main_v82 : Ref sig .tc := ⟨.hbm, 280, rfl⟩
abbrev main_v83 : Ref sig .tc := ⟨.hbm, 281, rfl⟩
abbrev main_call16_cst : Ref sig .tc := ⟨.hbm, 282, rfl⟩
abbrev main_call16_v0 : Ref sig .tc := ⟨.hbm, 283, rfl⟩
abbrev main_v84 : Ref sig .tc := ⟨.hbm, 284, rfl⟩
abbrev main_cst_31 : Ref sig .tc := ⟨.hbm, 285, rfl⟩
abbrev main_v85 : Ref sig .tc := ⟨.hbm, 286, rfl⟩
abbrev main_v86 : Ref sig .tc := ⟨.hbm, 287, rfl⟩
abbrev main_cst_32 : Ref sig .tc := ⟨.hbm, 288, rfl⟩
abbrev main_v87 : Ref sig .tc := ⟨.hbm, 289, rfl⟩
abbrev main_v88 : Ref sig .tc := ⟨.hbm, 290, rfl⟩
abbrev main_v89 : Ref sig .tc := ⟨.hbm, 291, rfl⟩
abbrev main_cst_33 : Ref sig .tc := ⟨.hbm, 292, rfl⟩
abbrev main_v90 : Ref sig .tc := ⟨.hbm, 293, rfl⟩
abbrev main_v91 : Ref sig .tc := ⟨.hbm, 294, rfl⟩
abbrev main_call17_cst : Ref sig .tc := ⟨.hbm, 295, rfl⟩
abbrev main_call17_v0 : Ref sig .tc := ⟨.hbm, 296, rfl⟩
abbrev main_v92 : Ref sig .tc := ⟨.hbm, 297, rfl⟩
abbrev main_cst_34 : Ref sig .tc := ⟨.hbm, 298, rfl⟩
abbrev main_v93 : Ref sig .tc := ⟨.hbm, 299, rfl⟩
abbrev main_v94 : Ref sig .tc := ⟨.hbm, 300, rfl⟩
abbrev main_cst_35 : Ref sig .tc := ⟨.hbm, 301, rfl⟩
abbrev main_v95 : Ref sig .tc := ⟨.hbm, 302, rfl⟩
abbrev main_v96 : Ref sig .tc := ⟨.hbm, 303, rfl⟩
abbrev main_v97 : Ref sig .tc := ⟨.hbm, 304, rfl⟩
abbrev main_v98 : Ref sig .tc := ⟨.hbm, 305, rfl⟩
abbrev main_cst_36 : Ref sig .tc := ⟨.hbm, 306, rfl⟩
abbrev main_v99 : Ref sig .tc := ⟨.hbm, 307, rfl⟩
abbrev main_v100 : Ref sig .tc := ⟨.hbm, 308, rfl⟩
abbrev main_cst_37 : Ref sig .tc := ⟨.hbm, 309, rfl⟩
abbrev main_v101 : Ref sig .tc := ⟨.hbm, 310, rfl⟩
abbrev main_v102 : Ref sig .tc := ⟨.hbm, 311, rfl⟩
abbrev main_v103 : Ref sig .tc := ⟨.hbm, 312, rfl⟩

abbrev nD : Nat := 1
abbrev τ : Topo := Topo.v7x

variable {F : FTy → Type} [FloatOps F]
-- ==== Proof.Consts.lean ====
/-
  THE CONSTANTS: the extended reals that the programs' f32 patterns denote, and the reals the kernel's named constants are.
-/
module

public import proofs.«01_k».proof.Proof.Gen.KernelIdeal
public import Idealize.ShloMosaic.PureOps.Ideal
public import Idealize.ShloMosaic.PureOps.IdealRules

@[expose] public section

noncomputable section

namespace Cert.Consts

open Idealize.ShloMosaic

/-- -16. -/
theorem ofBits_neg16 : Ideal.ofBits .f32 0xC1800000#32 = ((-16 : ℝ) : EReal) := by
  simp [Ideal.ofBits, Ideal.ieee, -EReal.coe_mul, -EReal.coe_neg]; norm_num
/-- 16. -/
theorem ofBits_16 : Ideal.ofBits .f32 0x41800000#32 = ((16 : ℝ) : EReal) := by
  simp [Ideal.ofBits, Ideal.ieee, -EReal.coe_mul]; norm_num
/-- 5/4. -/
theorem ofBits_5_4 : Ideal.ofBits .f32 0x3FA00000#32 = ((5 / 4 : ℝ) : EReal) := by
  simp [Ideal.ofBits, Ideal.ieee, -EReal.coe_mul]; norm_num
/-- 3/4. -/
theorem ofBits_3_4 : Ideal.ofBits .f32 0x3F400000#32 = ((3 / 4 : ℝ) : EReal) := by
  simp [Ideal.ofBits, Ideal.ieee, -EReal.coe_mul]; norm_num
/-- -1/4. -/
theorem ofBits_neg1_4 : Ideal.ofBits .f32 0xBE800000#32 = ((-1 / 4 : ℝ) : EReal) := by
  simp [Ideal.ofBits, Ideal.ieee, -EReal.coe_mul, -EReal.coe_neg]; norm_num
/-- 1/4. -/
theorem ofBits_1_4 : Ideal.ofBits .f32 0x3E800000#32 = ((1 / 4 : ℝ) : EReal) := by
  simp [Ideal.ofBits, Ideal.ieee, -EReal.coe_mul]; norm_num

/-- The name `log2_e_16` is 16 / ln 2. -/
theorem log2_e_16 : Named.named (F := Ideal) Cert.KernelIdeal.κ "log2_e_16" (φ := .f32) 0x41B8AA3B#32 = ((16 * (Real.log 2)⁻¹ : ℝ) : EReal) :=
  IdealRules.named_const.ideal_named_scalar _ _ _ _ rfl
/-- The name `neg_log2_e_32` is -32 / ln 2. -/
theorem neg_log2_e_32 :
    Named.named (F := Ideal) Cert.KernelIdeal.κ "neg_log2_e_32" (φ := .f32) 0xC238AA3B#32 = (((-32) * (Real.log 2)⁻¹ : ℝ) : EReal) :=
  IdealRules.named_const.ideal_named_scalar _ _ _ _ rfl
/-- The name `log2_e_14` is 14 / ln 2. -/
theorem log2_e_14 : Named.named (F := Ideal) Cert.KernelIdeal.κ "log2_e_14" (φ := .f32) 0x41A194F4#32 = ((14 * (Real.log 2)⁻¹ : ℝ) : EReal) :=
  IdealRules.named_const.ideal_named_scalar _ _ _ _ rfl

end Cert.Consts

end
-- ==== Proof.Inputs.lean ====
/-
  WHAT THE PRECONDITION SAYS, entry by entry: the first mask is one exactly on the first 32768 columns, the second exactly on the
  others; the entries of the first columns are at most 5/4, those of the others at least -1/4.
-/
module

public import proofs.«01_k».proof.Proof.Gen.Pre_inputs_of_the_problem
public import proofs.«01_k».proof.Proof.Consts
public import Idealize.ShloMosaic.Lib.ReduceAll
public import Idealize.ShloMosaic.Lib.WordCmp
public import Idealize.ShloMosaic.Lib.Affine
public import Idealize.ShloMosaic.Lib.ValueIdx
public import Idealize.ShloMosaic.PureOps.Ideal.Laws
public import Idealize.ShloMosaic.PureOps.Ideal.Laws

@[expose] public section

noncomputable section

namespace Cert.Inputs

open Cert.Pre_inputs_of_the_problem Cert.Pre_inputs_of_the_problem.Gen Cert.Consts
open Idealize.ShloMosaic Idealize.ShloMosaic.ValueIdx

/-- Two bits that compare equal are one together. -/
theorem bit_eq (p q : BitVec 1) (h : IntOp.cmpi .eq p q = 1#1) : p = 1#1 ↔ q = 1#1 := by
  rw [WordCmp.cmpi_eq_eq, WordCmp.ofBool_decide_eq_one_iff] at h
  rw [h]

/-- The four conditions at an entry. -/
theorem entry (x : FVec Ideal S256x65536 .f32) (a b : IVec S256x65536 32) (h : fn x a b = fun _ => 1#1) (r : Fin 256) (c : Fin 65536) :
    (a (ix2 r c) = 1#32 ↔ c.val < 32768) ∧ (b (ix2 r c) = 1#32 ↔ 32768 ≤ c.val)
      ∧ (c.val < 32768 → x (ix2 r c) ≤ ((5 / 4 : ℝ) : EReal)) ∧ (32768 ≤ c.val → ((-1 / 4 : ℝ) : EReal) ≤ x (ix2 r c)) := by
  have hc := c.isLt
  have hi := Host.reduce_andi_all _ _ _ _ ix0 (congrFun h ix0) (ix2 r c)
  have h4 : IntOp.andi (IntOp.andi (IntOp.andi (IntOp.cmpi .eq (IntOp.cmpi .eq (a (ix2 r c)) 1#32) (IntOp.cmpi .slt (BitVec.ofNat 32 c.val) 32768#32))
      (IntOp.cmpi .eq (IntOp.cmpi .eq (b (ix2 r c)) 1#32) (IntOp.cmpi .sge (BitVec.ofNat 32 c.val) 32768#32)))
      (IntOp.ori (IntOp.cmpi .sge (BitVec.ofNat 32 c.val) 32768#32) (Ideal.cmp .ole (x (ix2 r c)) (Ideal.ofBits .f32 0x3FA00000#32))))
      (IntOp.ori (IntOp.cmpi .slt (BitVec.ofNat 32 c.val) 32768#32) (Ideal.cmp .oge (x (ix2 r c)) (Ideal.ofBits .f32 0xBE800000#32))) = 1#1 := hi
  have hlt : IntOp.cmpi .slt (BitVec.ofNat 32 c.val) 32768#32 = 1#1 ↔ c.val < 32768 := by
    rw [WordCmp.cmpi_slt_ofNat (w := 32) (b := 32768) (by omega) (by norm_num), WordCmp.ofBool_decide_eq_one_iff]
  have hge : IntOp.cmpi .sge (BitVec.ofNat 32 c.val) 32768#32 = 1#1 ↔ 32768 ≤ c.val := by
    rw [WordCmp.cmpi_sge_ofNat (w := 32) (b := 32768) (by omega) (by norm_num), WordCmp.ofBool_decide_eq_one_iff]
  obtain ⟨h3, hlo⟩ := IntOp.andi_eq_one.1 h4
  obtain ⟨h2, hhi⟩ := IntOp.andi_eq_one.1 h3
  obtain ⟨ha, hb⟩ := IntOp.andi_eq_one.1 h2
  rw [ofBits_neg1_4, IntOp.ori_eq_one, hlt] at hlo
  rw [ofBits_5_4, IntOp.ori_eq_one, hge] at hhi
  refine ⟨IntOp.cmpi_eq.symm.trans ((bit_eq _ _ ha).trans hlt), IntOp.cmpi_eq.symm.trans ((bit_eq _ _ hb).trans hge), fun hc => ?_, fun hc => ?_⟩
  · exact (WordCmp.ofBool_decide_eq_one_iff _).1 (hhi.resolve_left (by omega))
  · exact (WordCmp.ofBool_decide_eq_one_iff _).1 (hlo.resolve_left (by omega))

end Cert.Inputs

end
-- ==== Proof.Body.lean ====
/-
  WHAT ONE BLOCK COMPUTES. The kernel body reads a [32, 65536] block as 512 slices of 128 columns. Slices 0 … 255 are the
  positives, slices 256 … 511 the negatives; each half is added up in four accumulators, slice k going to accumulator k mod 4.
  `chain` is such an accumulator, `out_eq` says that the body's result is the stated arithmetic of eight of them.
-/
module

public import proofs.«01_k».proof.Proof.Gen.KernelIdeal.Frame
public import Idealize.ShloMosaic.Lib.Pipeline.Value

@[expose] public section

set_option maxRecDepth 16384

noncomputable section

namespace Cert.KernelIdeal.Body

open Cert.KernelIdeal Cert.KernelIdeal.Gen Idealize.ShloMosaic

variable {F : FTy → Type} [FloatOps F] [Named F]

/-- A slice of 128 columns, 32 rows. -/
abbrev Slab (F : FTy → Type) := FVec F S32x128 .f32

theorem slice_inb (k : ℕ) : ∀ a, (![0, 128 * (k % 512)] : Fin 2 → ℕ) a + S32x128.size a ≤ S32x65536.size a := by
  intro a
  match a with
  | ⟨0, _⟩ => exact (by decide : (0 : ℕ) + 32 ≤ 32)
  | ⟨1, _⟩ =>
    show 128 * (k % 512) + 128 ≤ 65536
    omega

/-- Slice `k` of a block, as the body loads it. -/
def slice (x0 : Vec F S32x65536 .f32) (k : ℕ) : Slab F :=
  View.ld x0 (Rect.unit (s := S32x65536) ![0, 128 * (k % 512)] S32x128.size (slice_inb k))

/-- The term a positive slice adds: `2 ^ ((a x + b) x)`. -/
def posTerm (v : Slab F) : Slab F :=
  exp2 (mulf (addf (mulf (broadcast S32x128 (Named.named κ "log2_e_16" 0x41B8AA3B#32)) v)
    (broadcast S32x128 (Named.named κ "neg_log2_e_32" 0xC238AA3B#32))) v)

/-- The term a negative slice adds: `2 ^ ((a x) x)`. -/
def negTerm (v : Slab F) : Slab F :=
  exp2 (mulf (mulf (broadcast S32x128 (Named.named κ "log2_e_16" 0x41B8AA3B#32)) v) v)

/-- An accumulator after `n` slices `k, k + 4, k + 8, …`: zero, then one term added at a time. -/
def chain (f : Slab F → Slab F) (x0 : Vec F S32x65536 .f32) (k : ℕ) : ℕ → Slab F
  | 0 => broadcast S32x128 (Scalar.ofBits .f32 0x00000000#32)
  | n + 1 => addf (chain f x0 k n) (f (slice x0 (4 * n + k)))

/-- The four accumulators of the half that starts at slice `k`, added and summed along the lanes. -/
def half (f : Slab F → Slab F) (x0 : Vec F S32x65536 .f32) (k : ℕ) : FVec F S32x1 .f32 :=
  shapeCast S32x1 (multiReduction .add [1] S32
    (addf (addf (chain f x0 k 64) (chain f x0 (k + 1) 64)) (addf (chain f x0 (k + 2) 64) (chain f x0 (k + 3) 64)))
    0x00000000#32 reduces_S32x128_S32 (.inl rfl) rfl) shapeCasts_S32_S32x1

theorem hz : (![0, 0] : Fin 2 → Nat) = fun _ => 0 := funext fun a => by fin_cases a <;> rfl

set_option maxHeartbeats 4000000 in
/-- The body's result: `log1p (p · n · 2 ^ c)` of the two halves. -/
theorem out_eq (x0 : Vec F S32x65536 .f32) :
    out0_1 x0 = log1p (mulf (mulf (half posTerm x0 0) (half negTerm x0 256))
      (exp2 (broadcast S32x1 (Named.named κ "log2_e_14" 0x41A194F4#32)))) := by
  unfold out0_1
  rw [View.canon_unit_zero hz]
  rfl

end Cert.KernelIdeal.Body

end
-- ==== Proof.Spec.lean ====
/-
  THE MATHEMATICS OF THE EQUATION, over the extended reals. For a row `X` of the matrix (a function of the column) the problem's sums
  are Σ exp(-16 · max(5/4 - x, 0) · (x - 3/4)) over the first 32768 columns and Σ exp(16 · max(x + 1/4, 0) · (x - 1/4)) over the last
  32768; the result is log(1 + their product), `loss`. The kernel's sums are of powers of two, and its constants are gathered into one
  factor at the end. Where every positive is at most 5/4 and every negative at least -1/4 they agree: `kernel_eq`.
-/
module

public import Mathlib.Analysis.SpecialFunctions.Pow.Real
public import Mathlib.Algebra.BigOperators.Intervals
public import Mathlib.Data.EReal.Operations
public import Mathlib.Tactic.Abel
public import Idealize.ShloMosaic.PureOps.Ideal
public import Idealize.ShloMosaic.Lib.Pipeline.ValueKit.Acc

@[expose] public section

noncomputable section

namespace Cert.Spec

open Finset Idealize.ShloMosaic

/-- The problem's term of a positive entry. -/
def posF (x : EReal) : EReal := Ideal.exp (((-16 : ℝ) : EReal) * max (((5 / 4 : ℝ) : EReal) - x) 0 * (x - ((3 / 4 : ℝ) : EReal)))
/-- The problem's term of a negative entry. -/
def negF (x : EReal) : EReal := Ideal.exp (((16 : ℝ) : EReal) * max (x - ((-1 / 4 : ℝ) : EReal)) 0 * (x - ((1 / 4 : ℝ) : EReal)))

/-- The kernel's term of a positive entry. -/
def posK (x : EReal) : EReal :=
  Ideal.exp2 ((((16 * (Real.log 2)⁻¹ : ℝ) : EReal) * x + ((-32 * (Real.log 2)⁻¹ : ℝ) : EReal)) * x)
/-- The kernel's term of a negative entry. -/
def negK (x : EReal) : EReal := Ideal.exp2 (((16 * (Real.log 2)⁻¹ : ℝ) : EReal) * x * x)

/-- The sum of `f` over 32768 columns from `off`. -/
def colSum (f : EReal → EReal) (X : ℕ → EReal) (off : ℕ) : EReal := ∑ k ∈ range 32768, f (X (off + k))

/-- The circle loss of a row. -/
def loss (X : ℕ → EReal) : EReal := Ideal.log1p (colSum posF X 0 * colSum negF X 32768)

/-- A power of two at a multiple of 1 / ln 2 is an exponential. -/
theorem rpow_two (y : ℝ) : Real.rpow 2 (y * (Real.log 2)⁻¹) = Real.exp y := by
  have h2 : Real.log 2 ≠ 0 := (Real.log_pos (by norm_num)).ne'
  show (2 : ℝ) ^ (y * (Real.log 2)⁻¹) = _
  rw [Real.rpow_def_of_pos (by norm_num)]
  congr 1
  field_simp

/-- 16 / ln 2 is positive. -/
theorem scale_pos : 0 < 16 * (Real.log 2)⁻¹ := mul_pos (by norm_num) (inv_pos.2 (Real.log_pos (by norm_num)))

/-- At most 5/4, the kernel's positive term is the problem's, less a factor e¹⁵; at -∞ both are ∞. -/
theorem posF_eq {x : EReal} (h : x ≤ ((5 / 4 : ℝ) : EReal)) : posF x = posK x * ((Real.exp 15 : ℝ) : EReal) := by
  unfold posF posK
  induction x using EReal.rec with
  | top => exact absurd (top_le_iff.1 h) (EReal.coe_ne_top _)
  | bot =>
    rw [EReal.coe_sub_bot, max_eq_left le_top, EReal.coe_mul_top_of_neg (by norm_num), EReal.bot_sub, EReal.coe_mul_bot_of_pos scale_pos,
      EReal.bot_add, EReal.bot_mul_bot, Ideal.exp_top, Ideal.exp2_top, EReal.top_mul_coe_of_pos (Real.exp_pos _)]
  | coe x =>
    have h' : x ≤ 5 / 4 := EReal.coe_le_coe_iff.1 h
    rw [← EReal.coe_sub, ← EReal.coe_sub, ← EReal.coe_zero, ← EReal.coe_strictMono.monotone.map_max, ← EReal.coe_mul, ← EReal.coe_mul,
      ← EReal.coe_mul, ← EReal.coe_add, ← EReal.coe_mul, Ideal.exp_coe, Ideal.exp2_coe, ← EReal.coe_mul,
      show (16 * (Real.log 2)⁻¹ * x + -32 * (Real.log 2)⁻¹) * x = (16 * x * x - 32 * x) * (Real.log 2)⁻¹ by ring, rpow_two, ← Real.exp_add,
      max_eq_left (by linarith)]
    congr 2
    ring

/-- At least -1/4, the kernel's negative term is the problem's, less a factor e⁻¹; at ∞ both are ∞. -/
theorem negF_eq {x : EReal} (h : ((-1 / 4 : ℝ) : EReal) ≤ x) : negF x = negK x * ((Real.exp (-1) : ℝ) : EReal) := by
  unfold negF negK
  induction x using EReal.rec with
  | bot => exact absurd (le_bot_iff.1 h) (EReal.coe_ne_bot _)
  | top =>
    rw [EReal.top_sub_coe, EReal.top_sub_coe, max_eq_left le_top, EReal.coe_mul_top_of_pos (by norm_num), EReal.coe_mul_top_of_pos scale_pos,
      EReal.top_mul_top, Ideal.exp_top, Ideal.exp2_top, EReal.top_mul_coe_of_pos (Real.exp_pos _)]
  | coe x =>
    have h' : -1 / 4 ≤ x := EReal.coe_le_coe_iff.1 h
    rw [← EReal.coe_sub, ← EReal.coe_sub, ← EReal.coe_zero, ← EReal.coe_strictMono.monotone.map_max, ← EReal.coe_mul, ← EReal.coe_mul,
      ← EReal.coe_mul, ← EReal.coe_mul, Ideal.exp_coe, Ideal.exp2_coe, ← EReal.coe_mul,
      show 16 * (Real.log 2)⁻¹ * x * x = 16 * x * x * (Real.log 2)⁻¹ by ring, rpow_two, ← Real.exp_add, max_eq_left (by linarith)]
    congr 2
    ring

/-- A power of two is not negative. -/
theorem exp2_nonneg (x : EReal) : 0 ≤ Ideal.exp2 x := by
  induction x using EReal.rec with
  | bot => exact le_rfl
  | top => exact le_top
  | coe x => exact EReal.coe_nonneg.2 (Real.rpow_nonneg (by norm_num) x)

/-- A factor leaves a sum of terms that are not negative. -/
theorem sum_mul_of_nonneg {ι : Type} (s : Finset ι) (f : ι → EReal) (hf : ∀ i, 0 ≤ f i) (c : EReal) :
    (∑ i ∈ s, f i) * c = ∑ i ∈ s, f i * c := by
  classical
  induction s using Finset.induction_on with
  | empty => simp
  | insert a s ha ih => rw [sum_insert ha, sum_insert ha, EReal.right_distrib_of_nonneg (hf a) (sum_nonneg fun i _ => hf i), ih]

/-- The kernel's product of sums with its final factor is the problem's product of sums. -/
theorem kernel_eq (X : ℕ → EReal) (hhi : ∀ c, c < 32768 → X c ≤ ((5 / 4 : ℝ) : EReal))
    (hlo : ∀ c, 32768 ≤ c → c < 65536 → ((-1 / 4 : ℝ) : EReal) ≤ X c) :
    colSum posK X 0 * colSum negK X 32768 * ((Real.rpow 2 (14 * (Real.log 2)⁻¹) : ℝ) : EReal) = colSum posF X 0 * colSum negF X 32768 := by
  have hp : colSum posF X 0 = colSum posK X 0 * ((Real.exp 15 : ℝ) : EReal) := by
    unfold colSum
    rw [sum_mul_of_nonneg _ (fun k => posK (X (0 + k))) fun _ => exp2_nonneg _]
    exact sum_congr rfl fun k hk => posF_eq (hhi _ (by have := mem_range.1 hk; omega))
  have hn : colSum negF X 32768 = colSum negK X 32768 * ((Real.exp (-1) : ℝ) : EReal) := by
    unfold colSum
    rw [sum_mul_of_nonneg _ (fun k => negK (X (32768 + k))) fun _ => exp2_nonneg _]
    exact sum_congr rfl fun k hk => negF_eq (hlo _ (by omega) (by have := mem_range.1 hk; omega))
  rw [hp, hn, rpow_two, show (14 : ℝ) = 15 + -1 by norm_num, Real.exp_add, EReal.coe_mul]
  exact mul_mul_mul_comm _ _ _ _

/-- Four accumulators of 64 slices of 128 lanes, slice `s` in accumulator `s mod 4`, hold together the sum over all 32768 columns. -/
theorem lanes_eq {M : Type} [AddCommMonoid M] (f : ℕ → M) :
    ∑ l ∈ range 128, ((∑ j ∈ range 64, f ((4 * j + 0) * 128 + l) + ∑ j ∈ range 64, f ((4 * j + 1) * 128 + l))
      + (∑ j ∈ range 64, f ((4 * j + 2) * 128 + l) + ∑ j ∈ range 64, f ((4 * j + 3) * 128 + l))) = ∑ k ∈ range 32768, f k := by
  have h1 : ∀ l, ((∑ j ∈ range 64, f ((4 * j + 0) * 128 + l) + ∑ j ∈ range 64, f ((4 * j + 1) * 128 + l))
      + (∑ j ∈ range 64, f ((4 * j + 2) * 128 + l) + ∑ j ∈ range 64, f ((4 * j + 3) * 128 + l)))
      = ∑ s ∈ range (64 * 4), f (s * 128 + l) := fun l => by
    rw [← sum_range_range_mul_add 64 4 (fun s => f (s * 128 + l)), ← sum_add_distrib, ← sum_add_distrib, ← sum_add_distrib]
    refine sum_congr rfl fun j _ => ?_
    simp only [sum_range_succ, range_zero, sum_empty, zero_add, Nat.mul_comm j 4]
    abel
  rw [sum_congr rfl fun l _ => h1 l, sum_comm]
  exact sum_range_range_mul_add (64 * 4) 128 f

end Cert.Spec

end
-- ==== Proof.Block.lean ====
/-
  WHAT ONE BLOCK HOLDS AT THE EXTENDED REALS. Where row `r` of the block is `X`, row `r` of the body's result is
  log(1 + Σ posK · Σ negK · 2 ^ (14 / ln 2)) of it; with the positives at most 5/4 and the negatives at least -1/4 that is the row's
  circle loss: `out_apply`.
-/
module

public import proofs.«01_k».proof.Proof.Body
public import proofs.«01_k».proof.Proof.Consts
public import proofs.«01_k».proof.Proof.Spec
public import Idealize.ShloMosaic.Lib.ValueIdx
public import Idealize.ShloMosaic.Lib.Routing.Ops
public import Idealize.ShloMosaic.PureOps.Ideal.Laws

@[expose] public section

noncomputable section

namespace Cert.KernelIdeal.Body

open Cert.KernelIdeal Cert.KernelIdeal.Gen Cert.Spec Cert.Consts
open Idealize.ShloMosaic Idealize.ShloMosaic.ValueIdx Idealize.ShloMosaic.Routing

section
variable (x0 : Vec Ideal S32x65536 .f32) (r : Fin 32) (X : ℕ → EReal) (hX : ∀ c : Fin 65536, x0 (ix2 r c) = X c.val)
include hX

/-- A slice's entry in row `r`. -/
theorem slice_apply (k : ℕ) (hk : k < 512) (l : Fin 128) : slice x0 k (ix2 r l) = X (k * 128 + l.val) := by
  have hl := l.isLt
  rw [show k * 128 + l.val = (⟨k * 128 + l.val, by omega⟩ : Fin 65536).val from rfl, ← hX]
  unfold slice
  refine congrArg x0 (funext fun a => Fin.ext ?_)
  match a with
  | ⟨0, _⟩ => show 0 + 1 * r.val = r.val; omega
  | ⟨1, _⟩ => show 128 * (k % 512) + 1 * l.val = k * 128 + l.val; omega

/-- The positive term there. -/
theorem posTerm_apply (k : ℕ) (hk : k < 512) (l : Fin 128) :
    posTerm (slice x0 k) (ix2 r l) = posK (X (k * 128 + l.val)) := by
  show Ideal.exp2 ((Named.named (F := Ideal) κ "log2_e_16" (φ := .f32) 0x41B8AA3B#32 * slice x0 k (ix2 r l)
    + Named.named (F := Ideal) κ "neg_log2_e_32" (φ := .f32) 0xC238AA3B#32) * slice x0 k (ix2 r l)) = _
  rw [slice_apply x0 r X hX k hk l, log2_e_16, neg_log2_e_32]
  rfl

/-- The negative term there. -/
theorem negTerm_apply (k : ℕ) (hk : k < 512) (l : Fin 128) :
    negTerm (slice x0 k) (ix2 r l) = negK (X (k * 128 + l.val)) := by
  show Ideal.exp2 (Named.named (F := Ideal) κ "log2_e_16" (φ := .f32) 0x41B8AA3B#32 * slice x0 k (ix2 r l) * slice x0 k (ix2 r l)) = _
  rw [slice_apply x0 r X hX k hk l, log2_e_16]
  rfl

omit hX in
/-- An accumulator's entry: the sum of its terms. -/
theorem chain_apply (f : Slab Ideal → Slab Ideal) (g : EReal → EReal)
    (hf : ∀ k, k < 512 → ∀ l : Fin 128, f (slice x0 k) (ix2 r l) = g (X (k * 128 + l.val))) (k : ℕ) (l : Fin 128) :
    ∀ n, 4 * n + k < 516 → chain f x0 k n (ix2 r l) = ∑ j ∈ Finset.range n, g (X ((4 * j + k) * 128 + l.val))
  | 0, _ => by
    show Ideal.ofBits .f32 0x00000000#32 = _
    rw [Ideal.ofBits_zero_f32, Finset.sum_range_zero]
  | n + 1, hn => by
    show chain f x0 k n (ix2 r l) + f (slice x0 (4 * n + k)) (ix2 r l) = _
    rw [chain_apply f g hf k l n (by omega), hf _ (by omega), Finset.sum_range_succ]

omit hX in
/-- A half's entry: the sum over its 32768 columns. -/
theorem half_apply (f : Slab Ideal → Slab Ideal) (g : EReal → EReal)
    (hf : ∀ k, k < 512 → ∀ l : Fin 128, f (slice x0 k) (ix2 r l) = g (X (k * 128 + l.val))) (k : ℕ) (hk : k ≤ 256) :
    half f x0 k (ix2 r (0 : Fin 1)) = colSum g X (k * 128) := by
  unfold half
  rw [cast12 _ _ r (0 : Fin 1) r (by simp)]
  refine (Ideal.multiReduction_add_single (s := S32x128) (t := S32) (a := 1) _ _ reduces_S32x128_S32 _ _ (ix1 r)).trans ?_
  have hsum : ∀ l : Fin 128, addf (addf (chain f x0 k 64) (chain f x0 (k + 1) 64)) (addf (chain f x0 (k + 2) 64) (chain f x0 (k + 3) 64))
      (reduces_S32x128_S32.lift (ix1 r) l)
      = ((∑ j ∈ Finset.range 64, g (X ((4 * j + k) * 128 + l.val)) + ∑ j ∈ Finset.range 64, g (X ((4 * j + (k + 1)) * 128 + l.val)))
        + (∑ j ∈ Finset.range 64, g (X ((4 * j + (k + 2)) * 128 + l.val)) + ∑ j ∈ Finset.range 64, g (X ((4 * j + (k + 3)) * 128 + l.val)))) := by
    intro l
    have hi : reduces_S32x128_S32.lift (ix1 r) l = (ix2 r l : S32x128.Idx) := funext fun a => by
      match a with
      | ⟨0, _⟩ => rfl
      | ⟨1, _⟩ => rfl
    rw [hi, addf_apply, addf_apply, addf_apply, chain_apply x0 r X f g hf k l 64 (by omega), chain_apply x0 r X f g hf (k + 1) l 64 (by omega),
      chain_apply x0 r X f g hf (k + 2) l 64 (by omega), chain_apply x0 r X f g hf (k + 3) l 64 (by omega)]
  refine (Finset.sum_congr rfl fun l _ => hsum l).trans ?_
  unfold colSum
  rw [← lanes_eq (fun c => g (X (k * 128 + c))), ← Fin.sum_univ_eq_sum_range (fun l => _) 128]
  refine Finset.sum_congr rfl fun l _ => ?_
  refine congrArg₂ (· + ·) (congrArg₂ (· + ·) ?_ ?_) (congrArg₂ (· + ·) ?_ ?_) <;>
    exact Finset.sum_congr rfl fun j _ => congrArg g (congrArg X (by omega))

/-- Row `r` of the body's result is the row's circle loss. -/
theorem out_apply (hhi : ∀ c, c < 32768 → X c ≤ ((5 / 4 : ℝ) : EReal)) (hlo : ∀ c, 32768 ≤ c → c < 65536 → ((-1 / 4 : ℝ) : EReal) ≤ X c) :
    out0_1 x0 (ix2 r (0 : Fin 1)) = loss X := by
  rw [out_eq]
  show Ideal.log1p (half posTerm x0 0 (ix2 r (0 : Fin 1)) * half negTerm x0 256 (ix2 r (0 : Fin 1))
    * Ideal.exp2 (Named.named (F := Ideal) κ "log2_e_14" (φ := .f32) 0x41A194F4#32)) = _
  rw [half_apply x0 r X posTerm posK (posTerm_apply x0 r X hX) 0 (by omega), half_apply x0 r X negTerm negK (negTerm_apply x0 r X hX) 256 le_rfl,
    log2_e_14, Ideal.exp2_coe, kernel_eq X hhi hlo]
  rfl

end

end Cert.KernelIdeal.Body

end
-- ==== Proof.Array.lean ====
/-
  WHAT THE KERNEL'S RESULT ARRAY HOLDS after the run. Grid point `t` reads rows 32 t … 32 t + 31 of the matrix and writes those 32
  entries of a column, which the host then views as a vector: entry `i` of the result is entry i % 32 of the body's result at
  point i / 32 (`result_apply`, `run`).
-/
module

public import proofs.«01_k».proof.Proof.Gen.KernelIdeal.Frame
public import Idealize.ShloMosaic.Lib.Pipeline.Value
public import Idealize.ShloMosaic.Lib.StableHlo.Run
public import Idealize.ShloMosaic.Lib.ValueIdx
public import Idealize.ShloMosaic.Lib.Routing.Ops

@[expose] public section

noncomputable section

namespace Cert.KernelIdeal.Array

open Cert.KernelIdeal Cert.KernelIdeal.Gen Idealize.ShloMosaic Idealize.ShloMosaic.TcCoe Idealize.SL.Sem
open Idealize.ShloMosaic.ValueIdx Idealize.ShloMosaic.Routing

variable {F : FTy → Type} [FloatOps F] [Named F]
variable (m : (ℓ : Loc nD τ sig) → Buf (Elt F) ℓ) (ρ : Dev nD → PrngReg)

/-- Where the two windows are at a point: at block `t` of rows, block 0 of columns. -/
theorem index_eq : ∀ t : Fin grid0.N,
    win0_0.index t 0 = t.val ∧ win0_0.index t 1 = 0 ∧ win0_1.index t 0 = t.val ∧ win0_1.index t 1 = 0 := by
  decide +kernel

/-- A point's block of the matrix: entry (r, c) is entry (32 t + r, c) of the matrix. -/
theorem iblk_apply (c : Dev nD) (t : Fin cfg0.N) (r : Fin 32) (k : Fin 65536) (i : Fin 256) (hi : i.val = t.val * 32 + r.val) :
    (iblk m c 0 t : Vec F S32x65536 .f32) (ix2 r k) = (m ((c : Thread nD τ).loc main_arg0) : Vec F S256x65536 .f32) (ix2 i k) := by
  unfold iblk
  rw [View.read_apply]
  show (m ((c : Thread nD τ).loc main_arg0) : Vec F S256x65536 .f32) _ = _
  refine congrArg _ (funext fun a => Fin.ext ?_)
  match a with
  | ⟨0, _⟩ => show win0_0.index t 0 * 32 + 1 * r.val = i.val; rw [(index_eq t).1]; omega
  | ⟨1, _⟩ => show win0_0.index t 1 * 65536 + 1 * k.val = k.val; rw [(index_eq t).2.1]; omega

/-- What a point writes back is the body's result of its block. -/
theorem flushed_eq (c : Dev nD) (t : Fin cfg0.N) :
    (dats m 0 c).flushed 1 t = (cfg0.win 1).cut (grid0.coords t) (out0_1 (iblk m c 0 t)) := by
  show (cfg0.win 1).cut (grid0.coords t) ((dats m 0 c).after 1 t) = _
  rw [after0_1]

/-- Two points write disjoint blocks. -/
theorem disjoint (t t' : Fin cfg0.N) (hne : t ≠ t') :
    Disjoint ((cfg0.win 1).blk t).view.set ((cfg0.win 1).blk t').view.set :=
  (cfg0.win 1).disjoint_blk fun h => hne (Fin.ext (by
    rw [← (index_eq t).2.2.1, ← (index_eq t').2.2.1]; exact congrFun h 0))

/-- The column the grid leaves: entry (i, 0) is entry i % 32 of the body's result at point i / 32. -/
theorem column_apply (c : Dev nD) (t : Fin cfg0.N) (r : Fin 32) (i : Fin 256) (hi : i.val = t.val * 32 + r.val) :
    ((dats m 0 c).arrAt 1 cfg0.N : Vec F S256x1 .f32) (ix2 i (0 : Fin 1)) = out0_1 (iblk m c 0 t) (ix2 r (0 : Fin 1)) := by
  have h := (dats m 0 c).arrAt_emb_eq_flushed 1 (fun t t' _ _ hne => disjoint t t' hne) t (flush0_1 t) (ix2 r (0 : Fin 1))
  rw [flushed_eq] at h
  have he : ((cfg0.win 1).blk t).view.emb (ix2 r (0 : Fin 1)) = (ix2 i (0 : Fin 1) : S256x1.Idx) := funext fun a => Fin.ext (by
    match a with
    | ⟨0, _⟩ => show win0_1.index t 0 * 32 + 1 * r.val = i.val; rw [(index_eq t).2.2.1]; omega
    | ⟨1, _⟩ => show win0_1.index t 1 * 1 + 1 * 0 = 0; rw [(index_eq t).2.2.2])
  rw [he] at h
  exact h

/-- The result vector after the run. -/
def result (c : Dev nD) : Vec F S256 .f32 :=
  shapeCast S256 ((dats m 0 c).arrAt 1 cfg0.N : Vec F S256x1 .f32) shapeCasts_S256x1_S256

/-- Its entry `i`. -/
theorem result_apply (c : Dev nD) (t : Fin cfg0.N) (r : Fin 32) (i : Fin 256) (hi : i.val = t.val * 32 + r.val) :
    result m c (ix1 i) = out0_1 (iblk m c 0 t) (ix2 r (0 : Fin 1)) := by
  unfold result
  rw [cast21 _ _ i (0 : Fin 1) i (by simp)]
  exact column_apply m c t r i hi

/-- The host's last line leaves the result vector. -/
theorem tail_eq (c : Dev nD) : Pipeline.afterTail₀ cfgs (dats m) 0 (V0 m) [hostOps1] c main_v1 = result m c := by
  unfold Pipeline.afterTail₀
  show StableHlo.after hostOps1 _ (Proc.devRef .tc main_v1) = _
  have hr := StableHlo.reshape_result (τ := τ) (Val := Elt F) main_v0 main_v1 (rfl : (.f32 : EltTy) = .f32) shapeCasts_S256x1_S256 (by decide) (by decide)
    (Pipeline.withArrays (cfgs 0).spec c (V0 m c) fun w => (dats m 0 c).arrAt w (cfgs 0).N)
  refine hr.trans ?_
  have hw := Pipeline.withArrays_arr (cfgs 0).spec launch0.win.arr_inj c (V0 m c) (fun w => (dats m 0 c).arrAt w (cfgs 0).N) 1
  unfold result
  funext i
  exact congrArg (fun a : Vec F S256x1 .f32 => shapeCast S256 a shapeCasts_S256x1_S256 i) hw

/-- The run, read: the result vector, and the arguments unchanged. -/
theorem run : θ_run defs (onTc (τ := τ) (main (F := F))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Array

end
-- ==== Proof.Indexing.lean ====
/-
  TWO INDEXED OPERATIONS OF THE REFERENCE, at any extents: the histogram `zeros(N).at[idx].add(1)` of M indices into N bins
  (an index outside the bins is dropped), and `x[rows, cols]`, the gather of single elements of a matrix by two index words each.
-/
module

public import Idealize.ShloMosaic.Lib.Routing.Ops
public import Idealize.ShloMosaic.Lib.Routing.OpsPair

@[expose] public section

namespace Cert.Indexing

open Idealize.ShloMosaic Idealize.ShloMosaic.ValueIdx Idealize.ShloMosaic.Routing

/-- A coordinate of a rank-1 index, whatever name its one axis has. -/
theorem ix1_val {n : ℕ} (i : Fin n) (X : Fin 1) : (ix1 i X).val = i.val := by
  obtain rfl : X = 0 := Subsingleton.elim _ _
  rfl

/-- Update `i` of a scatter of `M` scalars into a vector of `N`, one index word each, lands at `x` exactly when its word, read
    signed, is `x`. -/
theorem lands {N M : ℕ} (d : ScatterDims (shape1 N) (shape2 M 1) (shape1 M)) (hiw : d.insertedWindowDims = [0])
    (hsd : d.scatterDimsToOperandDims = [0]) (hivd : d.indexVectorDim = 1) (idx : IVec (shape2 M 1) 32) (i : Fin M) (x : Fin N) :
    d.resultIdx? (ix1 i) idx = some (ix1 x) ↔ (idx (ix2 i (0 : Fin 1))).toInt = (x.val : Int) := by
  have hm : (0 : Fin 1) ∈ d.scatterDimsToOperandDims := by rw [hsd]; exact List.mem_singleton.2 rfl
  have hw : d.window (ix1 i) 0 = 0 := by
    unfold ScatterDims.window
    rw [dif_neg fun h => (of_decide_eq_true (List.mem_filter.1 h).2) (by rw [hiw]; exact List.mem_singleton.2 rfl)]
  have hs : d.start (ix1 i) idx 0 = (idx (ix2 i (0 : Fin 1))).toInt := by
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      rw [Fin.val_cast]
      exact ix1_val i _
    | ⟨1, _⟩ =>
      unfold ScatterDims.siIdx
      rw [dif_pos (by rw [hivd])]
      show List.idxOf (0 : Fin 1) d.scatterDimsToOperandDims = 0
      rw [hsd]; simp
  rw [resultIdx?_ix1, hs, hw, Nat.cast_zero, add_zero]

/-- The histogram: where index `i` holds the natural `g i` below 2³¹, bin `x` holds the number of `i < M` with `g i = x`. -/
theorem hist {N M : ℕ} (d : ScatterDims (shape1 N) (shape2 M 1) (shape1 M)) (hiw : d.insertedWindowDims = [0])
    (hsd : d.scatterDimsToOperandDims = [0]) (hivd : d.indexVectorDim = 1) (x0 : IVec (shape1 N) 32) (hx0 : ∀ i, x0 i = 0#32)
    (idx : IVec (shape2 M 1) 32) (upd : IVec (shape1 M) 32) (hupd : ∀ i, upd i = 1#32) (g : ℕ → ℕ)
    (hg : ∀ i : Fin M, idx (ix2 i (0 : Fin 1)) = BitVec.ofNat 32 (g i.val)) (hg31 : ∀ i : Fin M, g i.val < 2 ^ 31) (x : Fin N) :
    Host.scatter d IntOp.addi x0 idx upd (ix1 x) = BitVec.ofNat 32 (Nat.count (fun i => g i = x.val) M) := by
  rw [scatter_at]
  have hstep : ∀ (a : BitVec 32) (n : Fin (shape1 M).numel),
      (if d.resultIdx? ((shape1 M).rowMajor.symm n) idx = some (ix1 x) then IntOp.addi a (upd ((shape1 M).rowMajor.symm n)) else a)
        = IntOp.addi a (if g n.val = x.val then 1#32 else 0#32) := by
    intro a n
    have h : d.resultIdx? ((shape1 M).rowMajor.symm n) idx = some (ix1 x) ↔ g n.val = x.val := by
      rw [symm1, lands d hiw hsd hivd, hg, StableHlo.Predicate.toInt_ofNat_small _ (hg31 _)]
      exact Nat.cast_inj
    by_cases e : g n.val = x.val
    · rw [if_pos (h.2 e), if_pos e, hupd]
    · rw [if_neg fun q => e (h.1 q), if_neg e]
      exact (BitVec.add_zero a).symm
  simp only [hstep]
  refine (foldl_addi_ofNat _ _ (fun n => if g n.val = x.val then 1 else 0) (fun n _ => ?_) _ 0 (hx0 _)).trans ?_
  · by_cases e : g n.val = x.val
    · rw [if_pos e, if_pos e]
    · rw [if_neg e, if_neg e]
  · rw [Nat.zero_add, map_finRange_val _ (fun i => if g i = x.val then 1 else 0), sum_map_ite, numel1]

/-- `x[rows, cols]`: where the index table holds at `(p, 0)` a row `r` and at `(p, 1)` a column `c` of the matrix, element `p` of
    the gather is the matrix's entry `(r, c)`. -/
theorem gather_pair {α : Type} {A B n : ℕ} (d : GatherDims (shape2 A B) (shape2 n 2) (shape1 n)) (hcoll : d.collapsedSliceDims = [0, 1])
    (hob : d.operandBatchingDims = []) (hsim : d.startIndexMap = [0, 1]) (hivd : d.indexVectorDim = 1) (x : (shape2 A B).Idx → α)
    (idx : IVec (shape2 n 2) 32) (p : Fin n) (r : Fin A) (c : Fin B) (hr : idx (ix2 p (0 : Fin 2)) = BitVec.ofNat 32 r.val)
    (hc : idx (ix2 p (1 : Fin 2)) = BitVec.ofNat 32 c.val) (hA : A < 2 ^ 31) (hB : B < 2 ^ 31) :
    Host.gather d x idx (ix1 p) = x (ix2 r c) := by
  have hin : ∀ q : Fin 2, q ∈ d.collapsedSliceDims := fun q => by rw [hcoll]; fin_cases q <;> simp
  have hm : ∀ q : Fin 2, q ∈ d.startIndexMap := fun q => by rw [hsim]; fin_cases q <;> simp
  have hsl : ∀ q : Fin 2, d.sliceSizes q = 1 := fun q => d.slice_collapsed q (hin q)
  have hsi : ∀ q : Fin 2, d.siIdx (ix1 p) ⟨d.startIndexMap.idxOf q, List.idxOf_lt_length_iff.2 (hm q)⟩ = ix2 p q := by
    intro q
    funext b
    apply Fin.ext
    match b with
    | ⟨0, _⟩ =>
      unfold GatherDims.siIdx
      rw [dif_neg (by rw [hivd]; exact Nat.zero_ne_one)]
      unfold GatherDims.siCoord
      rw [Fin.val_cast]
      exact ix1_val p _
    | ⟨1, _⟩ =>
      unfold GatherDims.siIdx
      rw [dif_pos (by rw [hivd])]
      show List.idxOf q d.startIndexMap = q.val
      rw [hsim]
      fin_cases q <;> rfl
  have hco : ∀ q : Fin 2, d.start (ix1 p) idx q + d.batchCoord (ix1 p) q + d.offCoord (ix1 p) q
      = min (idx (ix2 p q)).toInt.toNat ((shape2 A B).size q - 1) := by
    intro q
    rw [d.batchCoord_eq_zero _ _ (by rw [hob]; exact List.not_mem_nil), d.offCoord_eq_zero _ _ fun h => ((d.mem_sKept q).1 h).1 (hin q)]
    unfold GatherDims.start
    rw [dif_pos (hm q), hsi, hsl, add_zero, add_zero]
  have hrl := r.isLt
  have hcl := c.isLt
  unfold Host.gather
  refine congrArg x (funext fun a => Fin.ext ?_)
  match a with
  | ⟨0, _⟩ =>
    refine (hco 0).trans ?_
    rw [hr, StableHlo.Predicate.toInt_ofNat_small _ (by omega)]
    show min ((r.val : Int)).toNat (A - 1) = r.val
    omega
  | ⟨1, _⟩ =>
    refine (hco 1).trans ?_
    rw [hc, StableHlo.Predicate.toInt_ofNat_small _ (by omega)]
    show min ((c.val : Int)).toNat (B - 1) = c.val
    omega

end Cert.Indexing
-- ==== Proof.HalfCount.lean ====
/-
  COUNTING ALONG A FLATTENED [256, 65536] MASK that is one on half of every row. `P` is the set of flat positions whose column lies in
  the half starting at column `off` (0 or 32768). The k-th position of the set is row k / 32768, column off + k % 32768: `nth` is its
  flat number, and exactly the positions before `nth k` have at most `k` members up to and including them.
-/
module

public import Idealize.ShloMosaic.Lib.Routing.Count
public import Mathlib.Tactic.SplitIfs

@[expose] public section

namespace Cert.HalfCount

open Idealize.ShloMosaic.Routing

/-- Flat positions of the half of every row that starts at column `off`. -/
abbrev InHalf (off i : ℕ) : Prop := off ≤ i % 65536 ∧ i % 65536 < off + 32768

/-- The flat position of the `k`-th member. -/
abbrev nth (off k : ℕ) : ℕ := k / 32768 * 65536 + off + k % 32768

variable {off : ℕ}

/-- Members below `n`: 32768 for every whole row, and those of the row begun. -/
theorem count_eq (h : off = 0 ∨ off = 32768) (n : ℕ) :
    Nat.count (InHalf off) n = n / 65536 * 32768 + min (n % 65536 - off) 32768 := by
  induction n with
  | zero => simp
  | succ n ih =>
    rw [Nat.count_succ, ih]
    rcases h with rfl | rfl <;> split_ifs <;> omega

/-- The mask has 256 · 32768 members. -/
theorem count_all (h : off = 0 ∨ off = 32768) : Nat.count (InHalf off) 16777216 = 8388608 := by
  rw [count_eq h]; rcases h with rfl | rfl <;> omega

/-- At most `k` members lie up to and including position `i` exactly when `i` is before the `k`-th member. -/
theorem count_le_iff (h : off = 0 ∨ off = 32768) (k i : ℕ) : Nat.count (InHalf off) (i + 1) ≤ k ↔ i < nth off k := by
  rw [count_eq h]; rcases h with rfl | rfl <;> unfold nth <;> omega

/-- Of the first `L` numbers, `t ≤ L` are below `t`. -/
theorem count_lt {t L : ℕ} (ht : t ≤ L) : Nat.count (fun i => i < t) L = t := by
  obtain ⟨d, rfl⟩ := Nat.exists_eq_add_of_le ht
  rw [Nat.count_add, Nat.count_iff_forall.2 fun i hi => hi, Nat.count_iff_forall_not.2 fun i _ => by omega, add_zero]

/-- So the number of such positions is the `k`-th member's own. -/
theorem count_count (h : off = 0 ∨ off = 32768) {k : ℕ} (hk : k < 8388608) :
    Nat.count (fun i => Nat.count (InHalf off) (i + 1) ≤ k) 16777216 = nth off k := by
  have hle : nth off k ≤ 16777216 := by rcases h with rfl | rfl <;> unfold nth <;> omega
  exact (count_congr_of_lt (Q := fun i => i < nth off k) _ fun i _ => count_le_iff h k i).trans (count_lt hle)

end Cert.HalfCount
-- ==== Proof.Nonzero.lean ====
/-
  WHAT THE REFERENCE READS OF THE MATRIX. The reference takes the row and column numbers of a mask's ones with `jnp.nonzero` (a running
  count, a histogram of it, the histogram's running sum, then quotients and remainders by the extents) and gathers the matrix there.
  `picked` is that printed term, as a function of the matrix and of the flattened mask bits. For a mask that is one exactly on the half
  of every row that starts at column `off`, `picked_apply`: its entry (r, k) is the matrix's entry (r, off + k).
-/
module

public import proofs.«01_k».proof.Proof.Gen.ReferenceIdeal
public import proofs.«01_k».proof.Proof.Indexing
public import proofs.«01_k».proof.Proof.HalfCount
public import Idealize.ShloMosaic.Lib.Routing.Words

@[expose] public section

noncomputable section

namespace Cert.ReferenceIdeal.Nonzero

open Cert.ReferenceIdeal Cert.ReferenceIdeal.Gen Cert.Indexing Cert.HalfCount
open Idealize.ShloMosaic Idealize.ShloMosaic.ValueIdx Idealize.ShloMosaic.Routing

/-- The running count of a flat mask's ones. -/
def running (b : IVec S16777216 1) : IVec S16777216 32 :=
  Host.reduceWindow IntOp.addi ![16777216] ![1] ![16777215] ![0] (extui 32 b natLt_1_32)
    (broadcastInDim S_ ![] bcast_S_S_ (constantI S_ 32 0#32)) reduceWindows_S16777216_S16777216_w16777216s1p16777215_0 h_S_

/-- The flat positions of the ones, in order: the running sum of the histogram of the running count. -/
def flat (b : IVec S16777216 1) : IVec S8388608 32 :=
  Host.reduceWindow IntOp.addi ![8388608] ![1] ![8388607] ![0]
    (Host.scatter scatter_S8388608_S16777216x1_S16777216_n_0_0_1 IntOp.addi (broadcastInDim S8388608 ![] bcast_S_S8388608 (constantI S_ 32 0#32))
      (broadcastInDim S16777216x1 ![0] bcast_S16777216_S16777216x1_0
        (select (cmpi .slt (running b) (broadcastInDim S16777216 ![] bcast_S_S16777216 (constantI S_ 32 0#32)))
          (addi (running b) (broadcastInDim S16777216 ![] bcast_S_S16777216 (constantI S_ 32 8388608#32))) (running b)))
      (broadcastInDim S16777216 ![] bcast_S_S16777216 (constantI S_ 32 1#32)))
    (broadcastInDim S_ ![] bcast_S_S_ (constantI S_ 32 0#32)) reduceWindows_S8388608_S8388608_w8388608s1p8388607_0 h_S_

/-- Which of the 8388608 places lie past the last one. -/
def past (b : IVec S16777216 1) : IVec S8388608 1 :=
  cmpi .sge (iotaInDim S8388608 32 0) (broadcastInDim S8388608 ![0] bcast_S1_S8388608_0 (broadcastInDim S1 ![] bcast_S_S1
    (Host.reduce IntOp.addi (extui 32 b natLt_1_32) (constantI S_ 32 0#32) reducesTo_S16777216_S_d0 h_S_)))

/-- Their row numbers (zero past the last). -/
def rows (b : IVec S16777216 1) : IVec S8388608 32 :=
  select (past b) (broadcastInDim S8388608 ![] bcast_S_S8388608 (id (constantI S_ 32 0#32)))
    (pyRem bcast_S_S8388608 (pyDiv bcast_S_S8388608 (flat b) (id (constantI S_ 32 65536#32))) (id (constantI S_ 32 256#32)))

/-- Their column numbers. -/
def cols (b : IVec S16777216 1) : IVec S8388608 32 :=
  select (past b) (broadcastInDim S8388608 ![] bcast_S_S8388608 (id (constantI S_ 32 0#32)))
    (pyRem bcast_S_S8388608 (pyDiv bcast_S_S8388608 (flat b) (id (constantI S_ 32 1#32))) (id (constantI S_ 32 65536#32)))

/-- An index vector wrapped once by an extent where it is negative, as a column. -/
def wrapped (v : IVec S8388608 32) (n : BitVec 32) : IVec S8388608x1 32 :=
  broadcastInDim S8388608x1 ![0] bcast_S8388608_S8388608x1_0
    (select (cmpi .slt v (broadcastInDim S8388608 ![] bcast_S_S8388608 (constantI S_ 32 0#32)))
      (addi v (broadcastInDim S8388608 ![] bcast_S_S8388608 (constantI S_ 32 n))) v)

/-- The matrix at the ones of the mask, as 256 rows of 32768. -/
def picked {α : Type} (x : S256x65536.Idx → α) (b : IVec S16777216 1) : S256x32768.Idx → α :=
  shapeCast S256x32768 (Host.gather gather_S256x65536_S8388608x2_S8388608_n_01_n_n_01_1_11 x
    (concatenate S8388608x2 1 [⟨S8388608x1, wrapped (rows b) 256#32⟩, ⟨S8388608x1, wrapped (cols b) 65536#32⟩]
      concatenates_S8388608x1_S8388608x1_S8388608x2_d1)) shapeCasts_S8388608_S256x32768

/-- The first column of two columns side by side. -/
theorem pair_left (u v : IVec S8388608x1 32) (hcat : Shape.Concatenates [S8388608x1, S8388608x1] S8388608x2 1) (p : Fin 8388608) :
    concatenate S8388608x2 1 [⟨S8388608x1, u⟩, ⟨S8388608x1, v⟩] hcat (ix2 p (0 : Fin 2)) = u (ix2 p (0 : Fin 1)) := by
  refine concatenate_pair_apply_left (t := S8388608x2) (s₁ := S8388608x1) (s₂ := S8388608x1) 1 u v hcat (ix2 p (0 : Fin 2)) rfl (ix2 p (0 : Fin 1)) fun a => ?_
  match a with
  | ⟨0, _⟩ => rfl
  | ⟨1, _⟩ => rfl

/-- The second one. -/
theorem pair_right (u v : IVec S8388608x1 32) (hcat : Shape.Concatenates [S8388608x1, S8388608x1] S8388608x2 1) (p : Fin 8388608) :
    concatenate S8388608x2 1 [⟨S8388608x1, u⟩, ⟨S8388608x1, v⟩] hcat (ix2 p (1 : Fin 2)) = v (ix2 p (0 : Fin 1)) := by
  refine concatenate_pair_apply_right (t := S8388608x2) (s₁ := S8388608x1) (s₂ := S8388608x1) 1 u v hcat (ix2 p (1 : Fin 2)) rfl rfl (ix2 p (0 : Fin 1)) (fun a ha => ?_) rfl
  match a with
  | ⟨0, _⟩ => rfl
  | ⟨1, _⟩ => exact absurd rfl ha

/-! ## For a mask given by a set of flat positions -/

section
variable (b : IVec S16777216 1) (P : ℕ → Prop) [DecidablePred P] (hb : ∀ i : Fin 16777216, b (ix1 i) = 1#1 ↔ P i.val)
include hb

/-- A widened mask bit is one on the set and zero off it. -/
theorem bit_apply (i : Fin 16777216) : extui 32 b natLt_1_32 (ix1 i) = BitVec.ofNat 32 (if P i.val then 1 else 0) := by
  show (b (ix1 i)).setWidth 32 = _
  by_cases h : P i.val
  · rw [if_pos h, (hb i).2 h]; rfl
  · rw [if_neg h, eq_zero_of_ne_one fun q => h ((hb i).1 q)]; rfl

/-- The running count at `i` is the number of members up to and including `i`. -/
theorem running_apply (i : Fin 16777216) : running b (ix1 i) = BitVec.ofNat 32 (Nat.count P (i.val + 1)) := by
  unfold running
  rw [cumsum1 (by norm_num) _ (fun i => if P i then 1 else 0) (bit_apply b P hb) _ rfl, sum_map_ite]

/-- The `k`-th entry of `flat` is the number of positions with at most `k` members up to and including them. -/
theorem flat_apply (k : Fin 8388608) :
    flat b (ix1 k) = BitVec.ofNat 32 (Nat.count (fun i => Nat.count P (i + 1) ≤ k.val) 16777216) := by
  have hlt : ∀ i : Fin 16777216, Nat.count P (i.val + 1) < 2 ^ 31 := fun i =>
    lt_of_le_of_lt (Nat.count_le _) (by have := i.isLt; omega)
  unfold flat
  rw [cumsum1 (by norm_num) _ (fun y => Nat.count (fun i => Nat.count P (i + 1) = y) 16777216) (fun y => ?_) _ rfl, sum_count_eq]
  refine hist _ rfl rfl rfl _ (fun _ => rfl) _ _ (fun _ => rfl) (fun i => Nat.count P (i + 1)) (fun i => ?_) hlt y
  rw [bcCol]
  show Scalar.select (IntOp.cmpi .slt (running b (ix1 i)) 0#32) _ (running b (ix1 i)) = _
  rw [wrap_of_lt _ _ (by
    rw [running_apply b P hb, BitVec.toNat_ofNat, Nat.mod_eq_of_lt (by have := hlt i; omega)]
    exact hlt i), running_apply b P hb]

/-- With 8388608 members no place lies past the last. -/
theorem past_apply (hP : Nat.count P 16777216 = 8388608) (k : Fin 8388608) : past b (ix1 k) = 0#1 := by
  have hk := k.isLt
  have hs : Host.reduce IntOp.addi (extui 32 b natLt_1_32) (constantI S_ 32 0#32) reducesTo_S16777216_S_d0 h_S_ ix0
      = BitVec.ofNat 32 8388608 := by
    rw [reduce_sum _ (fun i => if P i then 1 else 0) (bit_apply b P hb), sum_map_ite, hP]
  have hbc : broadcastInDim S8388608 ![0] bcast_S1_S8388608_0 (broadcastInDim S1 ![] bcast_S_S1
      (Host.reduce IntOp.addi (extui 32 b natLt_1_32) (constantI S_ 32 0#32) reducesTo_S16777216_S_d0 h_S_)) (ix1 k)
      = BitVec.ofNat 32 8388608 := by
    refine (broadcastInDim_apply _ bcast_S1_S8388608_0 _ _ (ix1 (0 : Fin 1)) fun a => ?_).trans ((bc0 _ _ _).trans hs)
    match a with
    | ⟨0, _⟩ => rfl
  show IntOp.cmpi .sge (BitVec.ofNat 32 k.val) _ = 0#1
  rw [hbc, WordCmp.cmpi_sge_ofNat (w := 32) (by omega) (by norm_num)]
  rw [decide_eq_false (by omega)]
  rfl

end

/-! ## For a half of every row -/

section
variable {off : ℕ} (h : off = 0 ∨ off = 32768) (b : IVec S16777216 1) (hb : ∀ i : Fin 16777216, b (ix1 i) = 1#1 ↔ InHalf off i.val)
include h hb

/-- The row number of the `k`-th one. -/
theorem rows_apply (k : Fin 8388608) : rows b (ix1 k) = BitVec.ofNat 32 (k.val / 32768) := by
  have hk := k.isLt
  have hlt : nth off k.val < 2 ^ 24 := by rcases h with rfl | rfl <;> unfold nth <;> omega
  have hf := flat_apply b _ hb k
  rw [count_count h hk] at hf
  unfold rows
  show Scalar.select (past b (ix1 k)) _ (pyRem _ _ _ (ix1 k)) = _
  rw [past_apply b _ hb (count_all h), select_zero,
    pyRem_ap _ _ _ _ (pyDiv_ap _ _ _ _ hf (b := 65536) rfl (by omega) (by norm_num) (by norm_num)) (b := 256) rfl (by omega) (by norm_num)
      (by norm_num)]
  refine congrArg (BitVec.ofNat 32) ?_
  rcases h with rfl | rfl <;> unfold nth <;> omega

/-- The column number of the `k`-th one. -/
theorem cols_apply (k : Fin 8388608) : cols b (ix1 k) = BitVec.ofNat 32 (off + k.val % 32768) := by
  have hk := k.isLt
  have hlt : nth off k.val < 2 ^ 24 := by rcases h with rfl | rfl <;> unfold nth <;> omega
  have hf := flat_apply b _ hb k
  rw [count_count h hk] at hf
  unfold cols
  show Scalar.select (past b (ix1 k)) _ (pyRem _ _ _ (ix1 k)) = _
  rw [past_apply b _ hb (count_all h), select_zero,
    pyRem_ap _ _ _ _ (pyDiv_ap _ _ _ _ hf (b := 1) rfl (by omega) (by norm_num) (by norm_num)) (b := 65536) rfl (by omega) (by norm_num)
      (by norm_num)]
  refine congrArg (BitVec.ofNat 32) ?_
  rcases h with rfl | rfl <;> unfold nth <;> omega

omit h hb in
/-- The wrap leaves a number below 2³¹ as it is. -/
theorem wrapped_apply (v : IVec S8388608 32) (n : BitVec 32) (k : Fin 8388608) (a : ℕ) (hv : v (ix1 k) = BitVec.ofNat 32 a)
    (ha : a < 2 ^ 31) : wrapped v n (ix2 k (0 : Fin 1)) = BitVec.ofNat 32 a := by
  unfold wrapped
  rw [bcCol]
  show Scalar.select (IntOp.cmpi .slt (v (ix1 k)) 0#32) _ (v (ix1 k)) = _
  rw [wrap_of_lt _ _ (by rw [hv, BitVec.toNat_ofNat, Nat.mod_eq_of_lt (by omega)]; exact ha), hv]

/-- Entry (r, k) of what the reference picks is entry (r, off + k) of the matrix. -/
theorem picked_apply {α : Type} (x : S256x65536.Idx → α) (r : Fin 256) (k : Fin 32768) (c : Fin 65536) (hc : c.val = off + k.val) :
    picked x b (ix2 r k) = x (ix2 r c) := by
  have hr := r.isLt
  have hk := k.isLt
  have hcl := c.isLt
  let p : Fin 8388608 := ⟨r.val * 32768 + k.val, by omega⟩
  have hr' : rows b (ix1 p) = BitVec.ofNat 32 r.val :=
    (rows_apply h b hb p).trans (congrArg (BitVec.ofNat 32) (show (r.val * 32768 + k.val) / 32768 = r.val by omega))
  have hc' : cols b (ix1 p) = BitVec.ofNat 32 c.val :=
    (cols_apply h b hb p).trans (congrArg (BitVec.ofNat 32) (show off + (r.val * 32768 + k.val) % 32768 = c.val by omega))
  unfold picked
  rw [cast12 _ _ r k p rfl]
  exact gather_pair _ rfl rfl rfl rfl x _ _ r c
    ((pair_left _ _ _ p).trans (wrapped_apply _ _ _ _ hr' (by omega)))
    ((pair_right _ _ _ p).trans (wrapped_apply _ _ _ _ hc' (by omega))) (by norm_num) (by norm_num)

end

end Cert.ReferenceIdeal.Nonzero

end
-- ==== Proof.Reference.lean ====
/-
  WHAT THE REFERENCE COMPUTES. Its result as printed is `result` of the positives and the negatives it picks (`picked`, Nonzero.lean).
  Where row `r` of the matrix is `X` and the masks are the two halves of every row, entry `r` is the row's circle loss:
  `result_apply`.
-/
module

public import proofs.«01_k».proof.Proof.Gen.ReferenceIdeal.Run
public import proofs.«01_k».proof.Proof.Nonzero
public import proofs.«01_k».proof.Proof.Consts
public import proofs.«01_k».proof.Proof.Spec
public import Idealize.ShloMosaic.Lib.ValueIdx
public import Idealize.ShloMosaic.PureOps.Ideal.Laws

@[expose] public section

noncomputable section

namespace Cert.ReferenceIdeal.Circle

open Cert.ReferenceIdeal Cert.ReferenceIdeal.Gen Cert.ReferenceIdeal.Nonzero Cert.Spec Cert.Consts Cert.HalfCount
open Idealize.ShloMosaic Idealize.ShloMosaic.ValueIdx Idealize.ShloMosaic.TcCoe

/-- The flattened bits of a mask: where it is one. -/
def bits (a : IVec S256x65536 32) : IVec S16777216 1 :=
  shapeCast S16777216 (cmpi .eq a (broadcastInDim S256x65536 ![] bcast_S_S256x65536 (constantI S_ 32 1#32))) shapeCasts_S256x65536_S16777216

/-- The terms of the picked positives. -/
def posTerms (v : FVec Ideal S256x32768 .f32) : FVec Ideal S256x32768 .f32 :=
  Host.exp (mulf (mulf (broadcastInDim S256x32768 ![] bcast_S_S256x32768 (constant S_ .f32 0xC1800000#32))
    (maximumf (subf (broadcastInDim S256x32768 ![] bcast_S_S256x32768 (constant S_ .f32 0x3FA00000#32)) v)
      (broadcastInDim S256x32768 ![] bcast_S_S256x32768 (constant S_ .f32 0x00000000#32))))
    (subf v (broadcastInDim S256x32768 ![] bcast_S_S256x32768 (constant S_ .f32 0x3F400000#32))))

/-- The terms of the picked negatives. -/
def negTerms (v : FVec Ideal S256x32768 .f32) : FVec Ideal S256x32768 .f32 :=
  Host.exp (mulf (mulf (broadcastInDim S256x32768 ![] bcast_S_S256x32768 (constant S_ .f32 0x41800000#32))
    (maximumf (subf v (broadcastInDim S256x32768 ![] bcast_S_S256x32768 (constant S_ .f32 0xBE800000#32)))
      (broadcastInDim S256x32768 ![] bcast_S_S256x32768 (constant S_ .f32 0x00000000#32))))
    (subf v (broadcastInDim S256x32768 ![] bcast_S_S256x32768 (constant S_ .f32 0x3E800000#32))))

/-- The reference's result, of the positives and the negatives. -/
def result (p n : FVec Ideal S256x32768 .f32) : FVec Ideal S256 .f32 :=
  Host.log1p (mulf (Host.reduceAdd (posTerms p) (constant S_ .f32 0x00000000#32) reducesTo_S256x32768_S256_d1 h_S_)
    (Host.reduceAdd (negTerms n) (constant S_ .f32 0x00000000#32) reducesTo_S256x32768_S256_d1 h_S_))

/-- The generated term of the positives is `picked` at the first mask. -/
theorem positives_eq (V0 : Valuation τ sig (Elt Ideal)) :
    Value.res_main_v66 V0 = picked (V0 (Proc.devRef .tc main_arg0)) (bits (V0 (Proc.devRef .tc main_arg1))) := rfl

/-- The generated term of the negatives is `picked` at the second mask. -/
theorem negatives_eq (V0 : Valuation τ sig (Elt Ideal)) :
    Value.res_main_v81 V0 = picked (V0 (Proc.devRef .tc main_arg0)) (bits (V0 (Proc.devRef .tc main_arg2))) := rfl

/-- A positive's term. -/
theorem posTerms_apply (v : FVec Ideal S256x32768 .f32) (i : S256x32768.Idx) (x : EReal) (hv : v i = x) :
    posTerms v i = posF x := by
  show Ideal.exp (Ideal.ofBits .f32 0xC1800000#32 * max (Ideal.ofBits .f32 0x3FA00000#32 - v i) (Ideal.ofBits .f32 0x00000000#32)
    * (v i - Ideal.ofBits .f32 0x3F400000#32)) = _
  rw [hv, ofBits_neg16, ofBits_5_4, ofBits_3_4, Ideal.ofBits_zero_f32]
  rfl

/-- A negative's term. -/
theorem negTerms_apply (v : FVec Ideal S256x32768 .f32) (i : S256x32768.Idx) (x : EReal) (hv : v i = x) :
    negTerms v i = negF x := by
  show Ideal.exp (Ideal.ofBits .f32 0x41800000#32 * max (v i - Ideal.ofBits .f32 0xBE800000#32) (Ideal.ofBits .f32 0x00000000#32)
    * (v i - Ideal.ofBits .f32 0x3E800000#32)) = _
  rw [hv, ofBits_16, ofBits_neg1_4, ofBits_1_4, Ideal.ofBits_zero_f32]
  rfl

theorem reduces_rows : S256x32768.Reduces [1] S256 := by decide

/-- A row sum of an array that is `g` on the row. -/
theorem rowSum_apply (v : FVec Ideal S256x32768 .f32) (r : Fin 256) (g : ℕ → EReal) (hv : ∀ k : Fin 32768, v (ix2 r k) = g k.val) :
    Host.reduceAdd v (constant S_ .f32 0x00000000#32) reducesTo_S256x32768_S256_d1 h_S_ (ix1 r)
      = ∑ k ∈ Finset.range 32768, g k := by
  show Ideal.hostReduceAdd reducesTo_S256x32768_S256_d1 v (Ideal.ofBits .f32 0x00000000#32) (ix1 r) = _
  rw [Ideal.hostReduceAdd_single _ reduces_rows, Ideal.ofBits_zero_f32, zero_add]
  refine Eq.trans (Finset.sum_congr rfl fun (k : Fin 32768) _ => ?_)
    (Fin.sum_univ_eq_sum_range g 32768)
  have hi : reduces_rows.lift (ix1 r) k = (ix2 r k : S256x32768.Idx) := funext fun a => by
    match a with
    | ⟨0, _⟩ => rfl
    | ⟨1, _⟩ => rfl
  rw [hi, hv]

/-- The result's last two operations at an index. -/
theorem log1p_mulf_apply {s : Shape} (u v : FVec Ideal s .f32) (i : s.Idx) : Host.log1p (mulf u v) i = Ideal.log1p (u i * v i) := rfl

/-- Entry `r` of the reference's result is the circle loss of row `r`. -/
theorem result_apply (x : FVec Ideal S256x65536 .f32) (b b' : IVec S16777216 1)
    (hb : ∀ i : Fin 16777216, b (ix1 i) = 1#1 ↔ InHalf 0 i.val) (hb' : ∀ i : Fin 16777216, b' (ix1 i) = 1#1 ↔ InHalf 32768 i.val)
    (r : Fin 256) (X : ℕ → EReal) (hX : ∀ c : Fin 65536, x (ix2 r c) = X c.val) :
    result (picked x b) (picked x b') (ix1 r) = loss X := by
  have hp := rowSum_apply (posTerms (picked x b)) r (fun k => posF (X (0 + k))) fun k => posTerms_apply _ _ _
    ((picked_apply (.inl rfl) b hb x r k ⟨0 + k.val, by have := k.isLt; omega⟩ rfl).trans (hX _))
  have hn := rowSum_apply (negTerms (picked x b')) r (fun k => negF (X (32768 + k))) fun k => negTerms_apply _ _ _
    ((picked_apply (.inr rfl) b' hb' x r k ⟨32768 + k.val, by have := k.isLt; omega⟩ rfl).trans (hX _))
  unfold result
  rw [log1p_mulf_apply, hp, hn]
  rfl

end Cert.ReferenceIdeal.Circle

end
-- ==== Proof.Equation.lean ====
/-
  THE EQUATION. Under the precondition, the vector the kernel leaves is the reference's result of the same three arrays: both have the
  circle loss of row `i` at entry `i`.
-/
module

public import proofs.«01_k».proof.Proof.Inputs
public import proofs.«01_k».proof.Proof.Block
public import proofs.«01_k».proof.Proof.Array
public import proofs.«01_k».proof.Proof.Reference

@[expose] public section

noncomputable section

namespace Cert.Equation

open Cert.ReferenceIdeal.Nonzero Cert.ReferenceIdeal.Circle Cert.HalfCount Cert.Spec
open Idealize.ShloMosaic Idealize.ShloMosaic.TcCoe Idealize.ShloMosaic.ValueIdx Idealize.ShloMosaic.Routing

/-- The flattened bits of a mask that is one exactly on the half of every row that starts at column `off`. -/
theorem bits_apply (off : ℕ) (a : IVec Cert.ReferenceIdeal.S256x65536 32)
    (ha : ∀ (r : Fin 256) (c : Fin 65536), a (ix2 r c) = 1#32 ↔ off ≤ c.val ∧ c.val < off + 32768) (i : Fin 16777216) :
    bits a (ix1 i) = 1#1 ↔ InHalf off i.val := by
  have hi := i.isLt
  have h := cast21 (a := 256) (b := 65536) (n := 16777216)
    (cmpi .eq a (broadcastInDim Cert.ReferenceIdeal.S256x65536 ![] Cert.ReferenceIdeal.Gen.bcast_S_S256x65536 (constantI Cert.ReferenceIdeal.S_ 32 1#32)))
    Cert.ReferenceIdeal.Gen.shapeCasts_S256x65536_S16777216
    ⟨i.val / 65536, by omega⟩ ⟨i.val % 65536, Nat.mod_lt _ (by norm_num)⟩ i (by show i.val = i.val / 65536 * 65536 + i.val % 65536; omega)
  have h' : bits a (ix1 i) = IntOp.cmpi .eq (a (ix2 (⟨i.val / 65536, by omega⟩ : Fin 256) (⟨i.val % 65536, Nat.mod_lt _ (by norm_num)⟩ : Fin 65536))) 1#32 := h
  rw [h']
  exact IntOp.cmpi_eq.trans (ha _ _)

/-- The kernel's result at a row `X` of positives at most 5/4 and negatives at least -1/4. -/
theorem kernel_apply (m : (ℓ : Loc Cert.KernelIdeal.nD Cert.KernelIdeal.τ Cert.KernelIdeal.sig) → Buf (Elt Ideal) ℓ) (c : Dev Cert.KernelIdeal.nD)
    (i : Fin 256) (X : ℕ → EReal)
    (hX : ∀ k : Fin 65536, (m ((c : Thread Cert.KernelIdeal.nD Cert.KernelIdeal.τ).loc Cert.KernelIdeal.main_arg0) : Vec Ideal Cert.KernelIdeal.S256x65536 .f32) (ix2 i k) = X k.val)
    (hhi : ∀ k, k < 32768 → X k ≤ ((5 / 4 : ℝ) : EReal)) (hlo : ∀ k, 32768 ≤ k → k < 65536 → ((-1 / 4 : ℝ) : EReal) ≤ X k) :
    Cert.KernelIdeal.Array.result m c (ix1 i) = loss X := by
  have hi := i.isLt
  have hN : Cert.KernelIdeal.cfg0.N = 8 := Cert.KernelIdeal.Gen.N_0
  have ht : i.val / 32 < Cert.KernelIdeal.cfg0.N := by omega
  have hd : i.val = i.val / 32 * 32 + i.val % 32 := by omega
  have h1 := Cert.KernelIdeal.Array.result_apply m c ⟨i.val / 32, ht⟩ ⟨i.val % 32, Nat.mod_lt _ (by norm_num)⟩ i hd
  have h2 := fun k => (Cert.KernelIdeal.Array.iblk_apply m c ⟨i.val / 32, ht⟩ ⟨i.val % 32, Nat.mod_lt _ (by norm_num)⟩ k i hd).trans (hX k)
  exact h1.trans (Cert.KernelIdeal.Body.out_apply _ _ X h2 hhi hlo)

/-- The two results agree. -/
theorem result_eq (m : (ℓ : Loc Cert.KernelIdeal.nD Cert.KernelIdeal.τ Cert.KernelIdeal.sig) → Buf (Elt Ideal) ℓ) (c : Dev Cert.KernelIdeal.nD)
    (x : FVec Ideal Cert.ReferenceIdeal.S256x65536 .f32) (a b : IVec Cert.ReferenceIdeal.S256x65536 32)
    (hx : (m ((c : Thread Cert.KernelIdeal.nD Cert.KernelIdeal.τ).loc Cert.KernelIdeal.main_arg0) : FVec Ideal Cert.ReferenceIdeal.S256x65536 .f32) = x)
    (hpre : Cert.Pre_inputs_of_the_problem.fn (F := Ideal) x a b = fun _ => 1#1) :
    Cert.ReferenceIdeal.Circle.result (picked x (bits a)) (picked x (bits b)) = Cert.KernelIdeal.Array.result m c := by
  have he := Cert.Inputs.entry x a b hpre
  funext j
  obtain ⟨i, rfl⟩ : ∃ i : Fin 256, j = ix1 i := ⟨j 0, funext fun k => by match k with | ⟨0, _⟩ => rfl⟩
  obtain ⟨X, hX⟩ : ∃ X : ℕ → EReal, ∀ k : Fin 65536, x (ix2 i k) = X k.val :=
    ⟨fun k => if h : k < 65536 then x (ix2 i ⟨k, h⟩) else 0, fun k => by beta_reduce; rw [dif_pos k.isLt]⟩
  have hhi : ∀ k, k < 32768 → X k ≤ ((5 / 4 : ℝ) : EReal) := fun k h =>
    (hX ⟨k, by omega⟩).symm.trans_le ((he i ⟨k, by omega⟩).2.2.1 h)
  have hlo : ∀ k, 32768 ≤ k → k < 65536 → ((-1 / 4 : ℝ) : EReal) ≤ X k := fun k h h' =>
    ((he i ⟨k, h'⟩).2.2.2 h).trans_eq (hX ⟨k, h'⟩)
  refine (result_apply x (bits a) (bits b) (bits_apply 0 a fun r k => ?_) (bits_apply 32768 b fun r k => ?_) i X hX).trans
    (kernel_apply m c i X (fun k => (congrFun hx (ix2 i k)).trans (hX k)) hhi hlo).symm
  · rw [(he r k).1]; omega
  · have := k.isLt
    rw [(he r k).2.1]; omega

end Cert.Equation

end
-- ==== Proof.lean ====
/-
  THE CERTIFICATE. The five claims, each from what the modules under Proof/ state: the three frames; that each named constant
  denotes its stated real; and that over the extended reals, under the precondition, the kernel and the reference
  leave the same vector.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_inputs_of_the_problem
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel runs to its end from every memory, at every float reading, leaves its arguments unchanged and every semaphore at zero. -/
theorem frame_p : Cert.quiescent_Kernel := fun m ρ _ => Cert.Kernel.Gen.frame m ρ

/-- So does the idealized kernel. -/
theorem frame_pi : Cert.quiescent_KernelIdeal := fun m ρ _ => Cert.KernelIdeal.Gen.frame m ρ

/-- So does the idealized kernel under the precondition. -/
theorem frame_pi_pre : Cert.quiescent_KernelIdeal_pre_inputs_of_the_problem := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference under the precondition. -/
theorem frame_ri_pre : Cert.quiescent_ReferenceIdeal_pre_inputs_of_the_problem := fun m ρ _ => frame_ri m ρ trivial

/-- Each of the three named constants denotes its stated real over the extended reals: 16 / ln 2, -32 / ln 2, 14 / ln 2. -/
theorem preserves : Cert.preserves_Kernel_KernelIdeal :=
  ⟨IdealRules.named_const.statement Cert.KernelIdeal.κ "log2_e_16" .f32 0x41B8AA3B#32 _ rfl,
    IdealRules.named_const.statement Cert.KernelIdeal.κ "neg_log2_e_32" .f32 0xC238AA3B#32 _ rfl,
    IdealRules.named_const.statement Cert.KernelIdeal.κ "log2_e_14" .f32 0x41A194F4#32 _ rfl⟩

/-- The reference's printed result, from a memory whose arguments are the kernel's, is the vector the kernel leaves. -/
theorem reference_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h0 : V0 (Proc.devRef .tc Cert.ReferenceIdeal.main_arg0) = m ((c : Thread Cert.KernelIdeal.nD Cert.KernelIdeal.τ).loc Cert.KernelIdeal.main_arg0))
    (h1 : V0 (Proc.devRef .tc Cert.ReferenceIdeal.main_arg1) = m ((c : Thread Cert.KernelIdeal.nD Cert.KernelIdeal.τ).loc Cert.KernelIdeal.main_arg1))
    (h2 : V0 (Proc.devRef .tc Cert.ReferenceIdeal.main_arg2) = m ((c : Thread Cert.KernelIdeal.nD Cert.KernelIdeal.τ).loc Cert.KernelIdeal.main_arg2))
    (hpre : Cert.Pre_KernelIdeal_inputs_of_the_problem m) :
    Cert.ReferenceIdeal.Circle.result (Cert.ReferenceIdeal.Value.res_main_v66 V0) (Cert.ReferenceIdeal.Value.res_main_v81 V0)
      = Cert.KernelIdeal.Array.result m c := by
  rw [Cert.ReferenceIdeal.Circle.positives_eq, Cert.ReferenceIdeal.Circle.negatives_eq, h0, h1, h2]
  exact Cert.Equation.result_eq m c _ _ _ rfl (hpre c)

/-- Over the extended reals, under the precondition, the kernel and the reference leave the same vector and unchanged arguments. -/
theorem algebraic : Cert.algebraic_KernelIdeal_ReferenceIdeal_pre_inputs_of_the_problem := by
  intro m ρ m' ρ' hpre hagree
  refine ⟨fun c => Cert.KernelIdeal.Array.result m c, Cert.KernelIdeal.Array.run (F := Ideal) m ρ, ?_⟩
  exact (θ_run Cert.ReferenceIdeal.defs _ _).mono
    (fun _ h c => ⟨(h c).1.trans (reference_eq m (StableHlo.launchContents m' c) c (hagree c).1 (hagree c).2.1 (hagree c).2.2 hpre), (h c).2⟩)
    (Cert.ReferenceIdeal.Value.run (F := Ideal) m' ρ')

/-- Every claim of the certificate. -/
theorem claim : Cert.Claim :=
  ⟨Cert.Kernel.Gen.facts, Cert.KernelIdeal.Gen.facts, Cert.ReferenceIdeal.Gen.facts, Cert.Pre_inputs_of_the_problem.Gen.facts,
    frame_p, frame_pi, frame_pi_pre, frame_ri, frame_ri_pre, preserves, algebraic⟩

end Cert.Proof

end
